-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048 : Shape := ⟨2, ![16, 2048]⟩
abbrev S2048x1024 : Shape := ⟨2, ![2048, 1024]⟩
abbrev S_ : Shape := ⟨0, ![]⟩
abbrev S4096x1024 : Shape := ⟨2, ![4096, 1024]⟩
abbrev S32768 : Shape := ⟨1, ![32768]⟩
abbrev S4194304 : Shape := ⟨1, ![4194304]⟩
abbrev S33554432 : Shape := ⟨1, ![33554432]⟩
abbrev S2048 : Shape := ⟨1, ![2048]⟩
abbrev S65536 : Shape := ⟨1, ![65536]⟩
abbrev S16 : Shape := ⟨1, ![16]⟩
abbrev S1 : Shape := ⟨1, ![1]⟩
abbrev S16x2048x1024 : Shape := ⟨3, ![16, 2048, 1024]⟩

abbrev nBuf : Table → Nat
  | .hbm => 9
  | .local .scVector .vmem => 2
  | _ => 0

abbrev bufTy : (tb : Table) → Fin (nBuf tb) → BufTy
  | .hbm, ⟨0, _⟩ => ⟨S16x2048, .i32⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S4096x1024, .f32⟩
  | .hbm, ⟨5, _⟩ => ⟨S32768, .i32⟩
  | .hbm, ⟨6, _⟩ => ⟨S4194304, .f32⟩
  | .hbm, ⟨7, _⟩ => ⟨S33554432, .f32⟩
  | .hbm, ⟨8, _⟩ => ⟨S16x2048x1024, .f32⟩
  | .local .scVector .vmem, ⟨0, _⟩ => ⟨S2048, .i32⟩
  | .local .scVector .vmem, ⟨1, _⟩ => ⟨S65536, .f32⟩
  | _, _ => ⟨S16x2048, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v2_scv : Ref sig .scVector := ⟨.hbm, 5, rfl⟩
abbrev main_v3_scv : Ref sig .scVector := ⟨.hbm, 6, rfl⟩
abbrev main_v4_scv : Ref sig .scVector := ⟨.hbm, 7, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2_i32 : BitVec 32 := 2#32
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let v2 : BitVec 32 := Scalar.divsi v1 c2_i32
  let c1_i32 : BitVec 32 := 1#32
  let v17 : BitVec 32 := Scalar.subi v2 c1_i32
  let v18 : BitVec 32 := Scalar.select v16 v17 v2
  let c2048_i32 : BitVec 32 := 2048#32
  let v30 : BitVec 32 := Scalar.muli v18 c2048_i32
  ![v30.toNat]
@[reducible] def k0_t1_loop : Scf.Loop 32 :=
  let c0_i32_11 : BitVec 32 := 0#32
  let c128_i32 : BitVec 32 := 128#32
  let v32 : BitVec 32 := Scalar.addi c0_i32_11 c128_i32
  let c1_i32_12 : BitVec 32 := 1#32
  ⟨c0_i32_11, v32, c1_i32_12⟩
def k0_off2 (k0_t1 : Fin k0_t1_loop.trips) : Fin 1 → Nat :=
  let c0_i32_11 : BitVec 32 := 0#32
  let c1_i32_12 : BitVec 32 := 1#32
  let arg7 : BitVec 32 := Scf.iv c0_i32_11 c1_i32_12 k0_t1
  let c16_i32_23 : BitVec 32 := 16#32
  let v88 : BitVec 32 := Scalar.muli arg7 c16_i32_23
  let v89 : Index := Scalar.indexCast v88
  ![v89.toNat]
@[reducible] def k0_t2_loop : Scf.Loop 32 :=
  let c0_i32_19 : BitVec 32 := 0#32
  let c16_i32_20 : BitVec 32 := 16#32
  let v86 : BitVec 32 := Scalar.addi c0_i32_19 c16_i32_20
  let c1_i32_21 : BitVec 32 := 1#32
  ⟨c0_i32_19, v86, c1_i32_21⟩
def k0_mult1 (i : grid0.Coords) (v35 : BitVec 32) (v38 : BitVec 32) (v41 : BitVec 32) (v44 : BitVec 32) (v47 : BitVec 32) (v50 : BitVec 32) (v53 : BitVec 32) (v56 : BitVec 32) (v59 : BitVec 32) (v62 : BitVec 32) (v65 : BitVec 32) (v68 : BitVec 32) (v71 : BitVec 32) (v74 : BitVec 32) (v77 : BitVec 32) (v80 : BitVec 32) (k0_t2 : Fin k0_t2_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let c2048_i32_14 : BitVec 32 := 2048#32
  let v36 : BitVec 32 := Scalar.minsi c2048_i32_14 v35
  let v39 : BitVec 32 := Scalar.minsi v36 v38
  let v42 : BitVec 32 := Scalar.minsi v39 v41
  let v45 : BitVec 32 := Scalar.minsi v42 v44
  let v48 : BitVec 32 := Scalar.minsi v45 v47
  let v51 : BitVec 32 := Scalar.minsi v48 v50
  let v54 : BitVec 32 := Scalar.minsi v51 v53
  let v57 : BitVec 32 := Scalar.minsi v54 v56
  let v60 : BitVec 32 := Scalar.minsi v57 v59
  let v63 : BitVec 32 := Scalar.minsi v60 v62
  let v66 : BitVec 32 := Scalar.minsi v63 v65
  let v69 : BitVec 32 := Scalar.minsi v66 v68
  let v72 : BitVec 32 := Scalar.minsi v69 v71
  let v75 : BitVec 32 := Scalar.minsi v72 v74
  let v78 : BitVec 32 := Scalar.minsi v75 v77
  let v81 : BitVec 32 := Scalar.minsi v78 v80
  let c2048_i32_15 : BitVec 32 := 2048#32
  let v82 : BitVec 1 := Scalar.cmpi .sge v81 c2048_i32_15
  let c0_i32_16 : BitVec 32 := 0#32
  let v83 : BitVec 32 := Scalar.select v82 c0_i32_16 v81
  let v84 : BitVec 32 := Scalar.subi v29 v83
  let c2048_i32_17 : BitVec 32 := 2048#32
  let v85 : BitVec 32 := Scalar.addi v84 c2048_i32_17
  let c0_i32_19 : BitVec 32 := 0#32
  let c1_i32_21 : BitVec 32 := 1#32
  let arg7 : BitVec 32 := Scf.iv c0_i32_19 c1_i32_21 k0_t2
  let c64_i32 : BitVec 32 := 64#32
  let v88 : BitVec 32 := Scalar.muli arg7 c64_i32
  let v89 : BitVec 32 := Scalar.addi v85 v88
  let c1024_i32_23 : BitVec 32 := 1024#32
  let v90 : BitVec 32 := Scalar.muli v89 c1024_i32_23
  v90

def k0_mult2 (i : grid0.Coords) (k0_t2 : Fin k0_t2_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2_i32 : BitVec 32 := 2#32
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let v2 : BitVec 32 := Scalar.divsi v1 c2_i32
  let c1_i32 : BitVec 32 := 1#32
  let v17 : BitVec 32 := Scalar.subi v2 c1_i32
  let v18 : BitVec 32 := Scalar.select v16 v17 v2
  let c2048_i32_24 : BitVec 32 := 2048#32
  let v92 : BitVec 32 := Scalar.muli v18 c2048_i32_24
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v93 : BitVec 32 := Scalar.addi v92 v29
  let c0_i32_19 : BitVec 32 := 0#32
  let c1_i32_21 : BitVec 32 := 1#32
  let arg7 : BitVec 32 := Scf.iv c0_i32_19 c1_i32_21 k0_t2
  let c64_i32_25 : BitVec 32 := 64#32
  let v94 : BitVec 32 := Scalar.muli arg7 c64_i32_25
  let v95 : BitVec 32 := Scalar.addi v93 v94
  let c1024_i32_26 : BitVec 32 := 1024#32
  let v96 : BitVec 32 := Scalar.muli v95 c1024_i32_26
  v96
def k0_off3 (i : grid0.Coords) (v35 : BitVec 32) (v38 : BitVec 32) (v41 : BitVec 32) (v44 : BitVec 32) (v47 : BitVec 32) (v50 : BitVec 32) (v53 : BitVec 32) (v56 : BitVec 32) (v59 : BitVec 32) (v62 : BitVec 32) (v65 : BitVec 32) (v68 : BitVec 32) (v71 : BitVec 32) (v74 : BitVec 32) (v77 : BitVec 32) (v80 : BitVec 32) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let c2048_i32_14 : BitVec 32 := 2048#32
  let v36 : BitVec 32 := Scalar.minsi c2048_i32_14 v35
  let v39 : BitVec 32 := Scalar.minsi v36 v38
  let v42 : BitVec 32 := Scalar.minsi v39 v41
  let v45 : BitVec 32 := Scalar.minsi v42 v44
  let v48 : BitVec 32 := Scalar.minsi v45 v47
  let v51 : BitVec 32 := Scalar.minsi v48 v50
  let v54 : BitVec 32 := Scalar.minsi v51 v53
  let v57 : BitVec 32 := Scalar.minsi v54 v56
  let v60 : BitVec 32 := Scalar.minsi v57 v59
  let v63 : BitVec 32 := Scalar.minsi v60 v62
  let v66 : BitVec 32 := Scalar.minsi v63 v65
  let v69 : BitVec 32 := Scalar.minsi v66 v68
  let v72 : BitVec 32 := Scalar.minsi v69 v71
  let v75 : BitVec 32 := Scalar.minsi v72 v74
  let v78 : BitVec 32 := Scalar.minsi v75 v77
  let v81 : BitVec 32 := Scalar.minsi v78 v80
  let c2048_i32_15 : BitVec 32 := 2048#32
  let v82 : BitVec 1 := Scalar.cmpi .sge v81 c2048_i32_15
  let c0_i32_16 : BitVec 32 := 0#32
  let v83 : BitVec 32 := Scalar.select v82 c0_i32_16 v81
  let v84 : BitVec 32 := Scalar.subi v29 v83
  let c2048_i32_17 : BitVec 32 := 2048#32
  let v85 : BitVec 32 := Scalar.addi v84 c2048_i32_17
  let c0_i32_19 : BitVec 32 := 0#32
  let c1_i32_21 : BitVec 32 := 1#32
  let arg7 : BitVec 32 := Scf.iv c0_i32_19 c1_i32_21 k0_t2
  let c64_i32 : BitVec 32 := 64#32
  let v88 : BitVec 32 := Scalar.muli arg7 c64_i32
  let v89 : BitVec 32 := Scalar.addi v85 v88
  let c1024_i32_23 : BitVec 32 := 1024#32
  let v90 : BitVec 32 := Scalar.muli v89 c1024_i32_23
  let v91 : BitVec 32 := v90
  ![v91.toNat]

def k0_chk1 (i : grid0.Coords) (v35 : BitVec 32) (v38 : BitVec 32) (v41 : BitVec 32) (v44 : BitVec 32) (v47 : BitVec 32) (v50 : BitVec 32) (v53 : BitVec 32) (v56 : BitVec 32) (v59 : BitVec 32) (v62 : BitVec 32) (v65 : BitVec 32) (v68 : BitVec 32) (v71 : BitVec 32) (v74 : BitVec 32) (v77 : BitVec 32) (v80 : BitVec 32) : Prop :=
  (∀ k0_t2 : Fin k0_t2_loop.trips, 8 ∣ (k0_mult1 i v35 v38 v41 v44 v47 v50 v53 v56 v59 v62 v65 v68 v71 v74 v77 v80 k0_t2).toNat) ∧
  (∀ k0_t2 : Fin k0_t2_loop.trips, ∀ a, (k0_off3 i v35 v38 v41 v44 v47 v50 v53 v56 v59 v62 v65 v68 v71 v74 v77 v80 k0_t2) a + S65536.size a ≤ S4194304.size a)
theorem k0_mult1_dvd : ∀ (i : grid0.Coords) (v35 : BitVec 32) (v38 : BitVec 32) (v41 : BitVec 32) (v44 : BitVec 32) (v47 : BitVec 32) (v50 : BitVec 32) (v53 : BitVec 32) (v56 : BitVec 32) (v59 : BitVec 32) (v62 : BitVec 32) (v65 : BitVec 32) (v68 : BitVec 32) (v71 : BitVec 32) (v74 : BitVec 32) (v77 : BitVec 32) (v80 : BitVec 32) (k0_hw1 : k0_chk1 i v35 v38 v41 v44 v47 v50 v53 v56 v59 v62 v65 v68 v71 v74 v77 v80) (k0_t2 : Fin k0_t2_loop.trips), 8 ∣ (k0_mult1 i v35 v38 v41 v44 v47 v50 v53 v56 v59 v62 v65 v68 v71 v74 v77 v80 k0_t2).toNat := fun i v35 v38 v41 v44 v47 v50 v53 v56 v59 v62 v65 v68 v71 v74 v77 v80 k0_hw1 k0_t2 => k0_hw1.1 k0_t2
theorem k0_off3_inb : ∀ (i : grid0.Coords) (v35 : BitVec 32) (v38 : BitVec 32) (v41 : BitVec 32) (v44 : BitVec 32) (v47 : BitVec 32) (v50 : BitVec 32) (v53 : BitVec 32) (v56 : BitVec 32) (v59 : BitVec 32) (v62 : BitVec 32) (v65 : BitVec 32) (v68 : BitVec 32) (v71 : BitVec 32) (v74 : BitVec 32) (v77 : BitVec 32) (v80 : BitVec 32) (k0_hw1 : k0_chk1 i v35 v38 v41 v44 v47 v50 v53 v56 v59 v62 v65 v68 v71 v74 v77 v80) (k0_t2 : Fin k0_t2_loop.trips), ∀ a, (k0_off3 i v35 v38 v41 v44 v47 v50 v53 v56 v59 v62 v65 v68 v71 v74 v77 v80 k0_t2) a + S65536.size a ≤ S4194304.size a := fun i v35 v38 v41 v44 v47 v50 v53 v56 v59 v62 v65 v68 v71 v74 v77 v80 k0_hw1 k0_t2 => k0_hw1.2 k0_t2

def k0_off4 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c2_i32 : BitVec 32 := 2#32
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let v2 : BitVec 32 := Scalar.divsi v1 c2_i32
  let c1_i32 : BitVec 32 := 1#32
  let v17 : BitVec 32 := Scalar.subi v2 c1_i32
  let v18 : BitVec 32 := Scalar.select v16 v17 v2
  let c2048_i32_24 : BitVec 32 := 2048#32
  let v92 : BitVec 32 := Scalar.muli v18 c2048_i32_24
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v93 : BitVec 32 := Scalar.addi v92 v29
  let c0_i32_19 : BitVec 32 := 0#32
  let c1_i32_21 : BitVec 32 := 1#32
  let arg7 : BitVec 32 := Scf.iv c0_i32_19 c1_i32_21 k0_t2
  let c64_i32_25 : BitVec 32 := 64#32
  let v94 : BitVec 32 := Scalar.muli arg7 c64_i32_25
  let v95 : BitVec 32 := Scalar.addi v93 v94
  let c1024_i32_26 : BitVec 32 := 1024#32
  let v96 : BitVec 32 := Scalar.muli v95 c1024_i32_26
  let v97 : BitVec 32 := v96
  ![v97.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x2048 : Shape := ⟨2, ![16, 2048]⟩
abbrev S2048x1024 : Shape := ⟨2, ![2048, 1024]⟩
abbrev S_ : Shape := ⟨0, ![]⟩
abbrev S16 : Shape := ⟨1, ![16]⟩
abbrev S2048 : Shape := ⟨1, ![2048]⟩
abbrev S1x2048 : Shape := ⟨2, ![1, 2048]⟩
abbrev S16x1 : Shape := ⟨2, ![16, 1]⟩
abbrev S16x2048x1 : Shape := ⟨3, ![16, 2048, 1]⟩
abbrev S1 : Shape := ⟨1, ![1]⟩
abbrev S1x1x1 : Shape := ⟨3, ![1, 1, 1]⟩
abbrev S16x2048x1024 : Shape := ⟨3, ![16, 2048, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S2048x1024, .f32⟩
  | .hbm, ⟨2, _⟩ => ⟨S_, .i32⟩
  | .hbm, ⟨3, _⟩ => ⟨S16x2048, .i32⟩
  | .hbm, ⟨4, _⟩ => ⟨S16x2048, .i1⟩
  | .hbm, ⟨5, _⟩ => ⟨S16x2048, .i32⟩
  | .hbm, ⟨6, _⟩ => ⟨S_, .i1⟩
  | .hbm, ⟨7, _⟩ => ⟨S_, .i32⟩
  | .hbm, ⟨8, _⟩ => ⟨S16, .i1⟩
  | .hbm, ⟨9, _⟩ => ⟨S16, .i32⟩
  | .hbm, ⟨10, _⟩ => ⟨S2048, .i32⟩
  | .hbm, ⟨11, _⟩ => ⟨S1x2048, .i32⟩
  | .hbm, ⟨12, _⟩ => ⟨S16x1, .i32⟩
  | .hbm, ⟨13, _⟩ => ⟨S16x2048, .i32⟩
  | .hbm, ⟨14, _⟩ => ⟨S16x2048, .i32⟩
  | .hbm, ⟨15, _⟩ => ⟨S16x2048, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S16x2048, .i32⟩
  | .hbm, ⟨20, _⟩ => ⟨S16x2048, .i32⟩
  | .hbm, ⟨21, _⟩ => ⟨S_, .i32⟩
  | .hbm, ⟨22, _⟩ => ⟨S16x2048, .i32⟩
  | .hbm, ⟨23, _⟩ => ⟨S16x2048, .i32⟩
  | .hbm, ⟨24, _⟩ => ⟨S_, .i32⟩
  | .hbm, ⟨25, _⟩ => ⟨S16x2048, .i32⟩
  | .hbm, ⟨26, _⟩ => ⟨S16x2048, .i1⟩
  | .hbm, ⟨27, _⟩ => ⟨S_, .i32⟩
  | .hbm, ⟨28, _⟩ => ⟨S16x2048, .i32⟩
  | .hbm, ⟨29, _⟩ => ⟨S16x2048, .i32⟩
  | .hbm, ⟨30, _⟩ => ⟨S16x2048, .i32⟩
  | .hbm, ⟨31, _⟩ => ⟨S16x2048x1, .i32⟩
  | .hbm, ⟨32, _⟩ => ⟨S1, .i32⟩
  | .hbm, ⟨33, _⟩ => ⟨S_, .i32⟩
  | .hbm, ⟨34, _⟩ => ⟨S16x2048x1, .i32⟩
  | .hbm, ⟨35, _⟩ => ⟨S16x2048x1, .i1⟩
  | .hbm, ⟨36, _⟩ => ⟨S1x1x1, .i32⟩
  | .hbm, ⟨37, _⟩ => ⟨S16x2048x1, .i32⟩
  | .hbm, ⟨38, _⟩ => ⟨S16x2048x1, .i1⟩
  | .hbm, ⟨39, _⟩ => ⟨S16x2048x1, .i1⟩
  | .hbm, ⟨40, _⟩ => ⟨S_, .i1⟩
  | .hbm, ⟨41, _⟩ => ⟨S16x2048, .i1⟩
  | .hbm, ⟨42, _⟩ => ⟨S16x2048x1024, .f32⟩
  | .hbm, ⟨43, _⟩ => ⟨S16x2048x1024, .i1⟩
  | .hbm, ⟨44, _⟩ => ⟨S_, .f32⟩
  | .hbm, ⟨45, _⟩ => ⟨S16x2048x1024, .f32⟩
  | .hbm, ⟨46, _⟩ => ⟨S16x2048x1024, .f32⟩
  | .hbm, ⟨47, _⟩ => ⟨S_, .i32⟩
  | .hbm, ⟨48, _⟩ => ⟨S16x2048, .i32⟩
  | .hbm, ⟨49, _⟩ => ⟨S16x2048, .i1⟩
  | .hbm, ⟨50, _⟩ => ⟨S16x2048x1, .i1⟩
  | .hbm, ⟨51, _⟩ => ⟨S_, .f32⟩
  | .hbm, ⟨52, _⟩ => ⟨S16x2048x1024, .i1⟩
  | .hbm, ⟨53, _⟩ => ⟨S16x2048x1024, .f32⟩
  | .hbm, ⟨54, _⟩ => ⟨S16x2048x1024, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_c : Ref sig .tc := ⟨.hbm, 6, rfl⟩
abbrev main_call0_c_0 : Ref sig .tc := ⟨.hbm, 7, rfl⟩
abbrev main_call0_v1_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v9 : Ref sig .tc := ⟨.hbm, 23, rfl⟩
abbrev main_call2_c : Ref sig .tc := ⟨.hbm, 24, rfl⟩
abbrev main_call2_v0 : Ref sig .tc := ⟨.hbm, 25, rfl⟩
abbrev main_call2_v1 : Ref sig .tc := ⟨.hbm, 26, rfl⟩
abbrev main_call2_c_0 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_v5 : Ref sig .tc := ⟨.hbm, 31, rfl⟩
abbrev main_call2_c_1 : Ref sig .tc := ⟨.hbm, 32, rfl⟩
abbrev main_call2_c_2 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_v9 : Ref sig .tc := ⟨.hbm, 37, rfl⟩
abbrev main_call2_v10 : Ref sig .tc := ⟨.hbm, 38, rfl⟩
abbrev main_call2_v11 : Ref sig .tc := ⟨.hbm, 39, rfl⟩
abbrev main_call2_c_3 : Ref sig .tc := ⟨.hbm, 40, rfl⟩
abbrev main_call2_v12 : Ref sig .tc := ⟨.hbm, 41, rfl⟩
abbrev main_call2_v13 : Ref sig .tc := ⟨.hbm, 42, rfl⟩
abbrev main_call2_v14 : Ref sig .tc := ⟨.hbm, 43, rfl⟩
abbrev main_call2_cst : Ref sig .tc := ⟨.hbm, 44, rfl⟩
abbrev main_call2_v15 : Ref sig .tc := ⟨.hbm, 45, rfl⟩
abbrev main_v10 : Ref sig .tc := ⟨.hbm, 46, rfl⟩
abbrev main_c_2 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_cst : Ref sig .tc := ⟨.hbm, 51, rfl⟩
abbrev main_call3_v0 : Ref sig .tc := ⟨.hbm, 52, rfl⟩
abbrev main_call3_v1 : Ref sig .tc := ⟨.hbm, 53, rfl⟩
abbrev main_v14 : Ref sig .tc := ⟨.hbm, 54, rfl⟩

abbrev nD : Nat := 1
abbrev τ : Topo := Topo.v7x

variable {F : FTy → Type} [FloatOps F]
-- ==== Proof.Words.lean ====
/-
  Words and first indices: the smallest of a list of small words, the first index of a row whose word is not zero,
  and the word arithmetic of the row number the kernel reads its table at.
-/
module

public import Idealize.ShloMosaic.Lib.Affine
public import Idealize.ShloMosaic.PureOps.Vector

@[expose] public section

namespace Cert.Proof.Words

open Idealize.ShloMosaic

/-- The signed minimum of two words at most 2048 is the minimum of the naturals they hold. -/
theorem minsi_toNat {a b : BitVec 32} (ha : a.toNat ≤ 2048) (hb : b.toNat ≤ 2048) :
    (IntOp.minsi a b).toNat = min a.toNat b.toNat := by
  unfold IntOp.minsi
  have h : a.slt b = decide (a.toNat < b.toNat) := by
    rw [BitVec.slt_eq_decide, BitVec.toInt_eq_toNat_cond, BitVec.toInt_eq_toNat_cond]
    congr 1
    rw [if_pos (by omega), if_pos (by omega)]
    simp
  rw [h]
  by_cases hlt : a.toNat < b.toNat
  · simp only [hlt, decide_true, if_true]; omega
  · simp only [hlt, decide_false, Bool.false_eq_true, if_false]; omega

/-- The smallest word of a list, and 2048 if all are larger: the signed minimum taken in turn from 2048 on. -/
def least (l : List (BitVec 32)) : BitVec 32 := l.foldl Scalar.minsi 2048#32

/-- Taking signed minima in turn over words at most 2048, from such a word: the outcome is at most 2048, and a natural
    is below it exactly when it is below the start and every word. -/
theorem foldl_minsi (l : List (BitVec 32)) : ∀ m : BitVec 32, m.toNat ≤ 2048 → (∀ x ∈ l, x.toNat ≤ 2048) →
    (l.foldl Scalar.minsi m).toNat ≤ 2048
      ∧ ∀ n : Nat, n ≤ (l.foldl Scalar.minsi m).toNat ↔ n ≤ m.toNat ∧ ∀ x ∈ l, n ≤ x.toNat := by
  induction l with
  | nil => intro m hm _; exact ⟨hm, fun n => by simp⟩
  | cons a l ih =>
    intro m hm hl
    have ha := hl a (by simp)
    have e : (Scalar.minsi m a).toNat = min m.toNat a.toNat := minsi_toNat hm ha
    obtain ⟨h1, h2⟩ := ih (Scalar.minsi m a) (by omega) (fun x hx => hl x (by simp [hx]))
    refine ⟨h1, fun n => ?_⟩
    rw [List.foldl_cons, h2 n, e]
    simp only [List.mem_cons, forall_eq_or_imp, le_min_iff, and_assoc]

/-- A natural is at most the smallest of words at most 2048 exactly when it is at most 2048 and at most each. -/
theorem le_least {l : List (BitVec 32)} (hl : ∀ x ∈ l, x.toNat ≤ 2048) (n : Nat) :
    n ≤ (least l).toNat ↔ n ≤ 2048 ∧ ∀ x ∈ l, n ≤ x.toNat :=
  (foldl_minsi l 2048#32 (by decide) hl).2 n

theorem least_le {l : List (BitVec 32)} (hl : ∀ x ∈ l, x.toNat ≤ 2048) : (least l).toNat ≤ 2048 :=
  (foldl_minsi l 2048#32 (by decide) hl).1

/-- The first of a row's 2048 places whose word is not zero; 2048 when all are. -/
def firstIdx (w : Nat → BitVec 32) : Nat := Nat.find (⟨2048, Or.inl rfl⟩ : ∃ p, p = 2048 ∨ w p ≠ 0#32)

/-- A natural is at most the first nonzero place exactly when it is at most 2048 and at most every nonzero place. -/
theorem le_firstIdx (w : Nat → BitVec 32) (n : Nat) :
    n ≤ firstIdx w ↔ n ≤ 2048 ∧ ∀ p < 2048, w p ≠ 0#32 → n ≤ p := by
  unfold firstIdx
  rw [Nat.le_find_iff]
  constructor
  · intro h
    refine ⟨?_, fun p _ hp => ?_⟩
    · by_contra hn
      exact h 2048 (by omega) (Or.inl rfl)
    · by_contra hn
      exact h p (by omega) (Or.inr hp)
  · rintro ⟨h1, h2⟩ q hq (rfl | hw)
    · omega
    · exact absurd (h2 q (by omega) hw) (by omega)

theorem firstIdx_le (w : Nat → BitVec 32) : firstIdx w ≤ 2048 := ((le_firstIdx w _).mp le_rfl).1

/-- The place a row's positions count from: the first nonzero place, 0 in a row of zeros. -/
def origin (w : Nat → BitVec 32) : Nat := if firstIdx w = 2048 then 0 else firstIdx w

theorem origin_lt (w : Nat → BitVec 32) : origin w < 2048 := by
  have := firstIdx_le w
  unfold origin; split <;> omega

/-- The first nonzero place depends on the first 2048 words only. -/
theorem firstIdx_congr {w w' : Nat → BitVec 32} (h : ∀ p < 2048, w p = w' p) : firstIdx w = firstIdx w' := by
  refine le_antisymm ((le_firstIdx w' _).mpr ⟨firstIdx_le w, fun p hp hw => ?_⟩)
    ((le_firstIdx w _).mpr ⟨firstIdx_le w', fun p hp hw => ?_⟩)
  · exact ((le_firstIdx w _).mp le_rfl).2 p hp (by rw [h p hp]; exact hw)
  · exact ((le_firstIdx w' _).mp le_rfl).2 p hp (by rw [← h p hp]; exact hw)

theorem origin_congr {w w' : Nat → BitVec 32} (h : ∀ p < 2048, w p = w' p) : origin w = origin w' := by
  unfold origin; rw [firstIdx_congr h]

/-- One step of a lane's scan: the minimum of what the lane holds and of place `16 t + l`, taken as 2048 where its word
    is zero. -/
theorem scan_step {a x : BitVec 32} {t l : Nat} (ha : a.toNat ≤ 2048) (ht : t < 128) (hl : l < 16) :
    (IntOp.minsi a (Scalar.select (IntOp.cmpi .ne x 0#32)
        (IntOp.addi (BitVec.ofNat 32 l) (IntOp.muli (0#32 + BitVec.ofNat 32 t * 1#32) 16#32)) 2048#32)).toNat
      = min a.toNat (if x ≠ 0#32 then 16 * t + l else 2048) := by
  have hs : (Scalar.select (IntOp.cmpi .ne x 0#32)
        (IntOp.addi (BitVec.ofNat 32 l) (IntOp.muli (0#32 + BitVec.ofNat 32 t * 1#32) 16#32)) 2048#32).toNat
      = if x ≠ 0#32 then 16 * t + l else 2048 := by
    by_cases hx : x = 0#32
    · subst hx; rfl
    · have h1 : IntOp.cmpi .ne x 0#32 = 1#1 := by
        have hb : (x != 0#32) = true := by simpa using hx
        show BitVec.ofBool (x != 0#32) = 1#1
        rw [hb]; rfl
      rw [h1]
      simp only [Scalar.select, IntOp.addi, IntOp.muli, ne_eq, hx, not_false_eq_true, if_true]
      simp [BitVec.toNat_add, BitVec.toNat_mul]
      omega
  rw [minsi_toNat ha (by rw [hs]; split <;> omega), hs]

/-- The word arithmetic of the table row: from the block's first place `1024 c`, the least nonzero place `M` (2048 for
    none, then counted as 0) and the chunk `t`, the flat position of the chunk's first word in the table. -/
theorem base_toNat {h v : BitVec 32} {M : BitVec 32} (c t : Nat) (hh : h = BitVec.ofNat 32 (1024 * c))
    (hv : v = BitVec.ofNat 32 (64 * t)) (hc : c ≤ 1) (ht : t < 16) (hM : M.toNat ≤ 2048) :
    (Scalar.muli (Scalar.addi (Scalar.addi (Scalar.subi h (Scalar.select (Scalar.cmpi .sge M 2048#32) 0#32 M)) 2048#32) v)
        1024#32).toNat
      = (1024 * c + 2048 - (if M.toNat = 2048 then 0 else M.toNat) + 64 * t) * 1024 := by
  subst hh hv
  have hcmp : Scalar.cmpi .sge M 2048#32 = BitVec.ofBool (decide (M.toNat = 2048)) := by
    simp only [Scalar.cmpi, IntOp.cmpi]
    congr 1
    rw [BitVec.sle_eq_decide, BitVec.toInt_eq_toNat_cond, BitVec.toInt_eq_toNat_cond]
    congr 1
    rw [if_pos (by simp), if_pos (by omega)]
    simp only [BitVec.toNat_ofNat]
    apply propext; constructor <;> intro h <;> omega
  rw [hcmp]
  simp only [Scalar.muli, Scalar.addi, Scalar.subi, IntOp.muli, IntOp.addi, IntOp.subi, Scalar.select]
  by_cases hm : M.toNat = 2048
  · simp [hm, BitVec.toNat_add, BitVec.toNat_mul]
    omega
  · simp [hm, BitVec.toNat_add, BitVec.toNat_mul, BitVec.toNat_sub]
    omega

end Cert.Proof.Words

end
-- ==== Proof.OffsetsIdeal.lean ====
/-
  The kernel's offsets in closed form: where a task reads its row of the input, where each chunk of it goes in the
  output, and where the chunk's rows stand in the table; and the lane scan's payload read at a lane.
-/
module

public import proofs.«01_k».proof.Proof.Words
public import proofs.«01_k».proof.Proof.Gen.KernelIdeal
public import proofs.«01_k».proof.Proof.Gen.KernelIdeal.Skeleton

@[expose] public section

noncomputable section

namespace Cert.Proof.EmbedIdeal

open Cert.KernelIdeal Cert.KernelIdeal.Gen
open Idealize.ShloMosaic
open Cert.Proof.Words

/-- The task's number: sixteen tasks to a core. -/
abbrev wid (i : grid0.Coords) : Nat := 16 * (i 0).val + (i 1).val

theorem wid_lt (i : grid0.Coords) : wid i < 32 := by
  have h0 : (i 0).val < 2 := (i 0).isLt
  have h1 : (i 1).val < 16 := (i 1).isLt
  unfold wid; omega

theorem trips1 : k0_t1_loop.trips = 128 := by decide +kernel
theorem trips2 : k0_t2_loop.trips = 16 := by decide +kernel

theorem trip1_lt (t : Fin k0_t1_loop.trips) : t.val < 128 := trips1 ▸ t.isLt
theorem trip2_lt (t : Fin k0_t2_loop.trips) : t.val < 16 := trips2 ▸ t.isLt

/-- A task reads the input's row `wid / 2`. -/
theorem off1_eq : ∀ i : grid0.Coords, k0_off1 i 0 = wid i / 2 * 2048 := by decide +kernel

/-- A task's chunk `t` goes to 64 rows of 1024 words, from row `1024 wid + 64 t` on. -/
theorem off4_eq : ∀ (i : grid0.Coords) (t : Fin k0_t2_loop.trips), k0_off4 i t 0 = (wid i * 1024 + 64 * t.val) * 1024 := by
  decide +kernel

/-- The first place of the task's half of its row, as the kernel computes it. -/
def halfWord (i : grid0.Coords) : BitVec 32 :=
  let v1 : BitVec 32 := Scalar.addi (Scalar.muli (BitVec.ofNat 32 (i 0).val) 16#32) (BitVec.ofNat 32 (i 1).val)
  let v20 : BitVec 32 := Scalar.select (Scalar.cmpi .eq 2#32 0#32) 1#32 2#32
  let v21 : BitVec 32 := Scalar.remsi v1 v20
  let v26 : BitVec 1 := Scalar.andi (Scalar.xori (Scalar.cmpi .slt v21 0#32) (Scalar.cmpi .slt v20 0#32)) (Scalar.cmpi .ne v21 0#32)
  Scalar.muli (Scalar.select v26 (Scalar.addi v21 v20) v21) 1024#32

theorem halfWord_eq : ∀ i : grid0.Coords, halfWord i = BitVec.ofNat 32 (1024 * (wid i % 2)) := by decide +kernel

theorem chunkWord_eq : ∀ t : Fin k0_t2_loop.trips, Scalar.muli (Scf.iv 0#32 1#32 t.val) 64#32 = BitVec.ofNat 32 (64 * t.val) := by
  decide +kernel

section Table

variable (i : grid0.Coords) (a0 a1 a2 a3 a4 a5 a6 a7 a8 a9 a10 a11 a12 a13 a14 a15 : BitVec 32)

/-- The chunk's first word in the table, as the kernel computes it, over the least of the sixteen lanes. -/
theorem off3_word (t : Fin k0_t2_loop.trips) :
    k0_off3 i a0 a1 a2 a3 a4 a5 a6 a7 a8 a9 a10 a11 a12 a13 a14 a15 t 0
      = (Scalar.muli (Scalar.addi (Scalar.addi (Scalar.subi (halfWord i)
          (Scalar.select (Scalar.cmpi .sge (least [a0, a1, a2, a3, a4, a5, a6, a7, a8, a9, a10, a11, a12, a13, a14, a15]) 2048#32) 0#32
            (least [a0, a1, a2, a3, a4, a5, a6, a7, a8, a9, a10, a11, a12, a13, a14, a15]))) 2048#32)
          (Scalar.muli (Scf.iv 0#32 1#32 t.val) 64#32)) 1024#32).toNat := rfl

/-- The same word is the multiple the kernel states. -/
theorem mult1_off3 (t : Fin k0_t2_loop.trips) :
    (k0_mult1 i a0 a1 a2 a3 a4 a5 a6 a7 a8 a9 a10 a11 a12 a13 a14 a15 t).toNat
      = k0_off3 i a0 a1 a2 a3 a4 a5 a6 a7 a8 a9 a10 a11 a12 a13 a14 a15 t 0 := rfl

/-- The table offset in closed form, the lanes at most 2048. -/
theorem off3_eq (h : ∀ x ∈ [a0, a1, a2, a3, a4, a5, a6, a7, a8, a9, a10, a11, a12, a13, a14, a15], x.toNat ≤ 2048)
    (t : Fin k0_t2_loop.trips) :
    k0_off3 i a0 a1 a2 a3 a4 a5 a6 a7 a8 a9 a10 a11 a12 a13 a14 a15 t 0
      = (1024 * (wid i % 2) + 2048
          - (if (least [a0, a1, a2, a3, a4, a5, a6, a7, a8, a9, a10, a11, a12, a13, a14, a15]).toNat = 2048 then 0
              else (least [a0, a1, a2, a3, a4, a5, a6, a7, a8, a9, a10, a11, a12, a13, a14, a15]).toNat)
          + 64 * t.val) * 1024 := by
  rw [off3_word]
  exact base_toNat (wid i % 2) t.val (halfWord_eq i) (chunkWord_eq t) (by omega) (trip2_lt t) (least_le h)

/-- The check the kernel makes on its lanes holds when they are at most 2048. -/
theorem chk1_of_le (h : ∀ x ∈ [a0, a1, a2, a3, a4, a5, a6, a7, a8, a9, a10, a11, a12, a13, a14, a15], x.toNat ≤ 2048) :
    k0_chk1 i a0 a1 a2 a3 a4 a5 a6 a7 a8 a9 a10 a11 a12 a13 a14 a15 := by
  have hl := least_le h
  refine ⟨fun t => ?_, fun t a => ?_⟩
  · rw [mult1_off3, off3_eq i _ _ _ _ _ _ _ _ _ _ _ _ _ _ _ _ h t]
    omega
  · have ha : a = 0 := Subsingleton.elim _ _
    subst ha
    rw [off3_eq i _ _ _ _ _ _ _ _ _ _ _ _ _ _ _ _ h t]
    have := trip2_lt t
    show _ + 65536 ≤ 4194304
    split <;> omega

end Table

variable {F : FTy → Type} [FloatOps F]

/-- The scan's first carry holds 2048 in every lane. -/
theorem pay1_apply (l : S16.Idx) : k0_pay1 l = 2048#32 := rfl

/-- The scan's carry after a trip, at a lane. -/
theorem pay2_toNat (t : Fin k0_t1_loop.trips) (acc : IVec S16 32) (v : Vec F S16 .i32) (l : S16.Idx) (ha : (acc l).toNat ≤ 2048) :
    (k0_pay2 (F := F) 0#32 t acc v l).toNat = min (acc l).toNat (if v l ≠ 0#32 then 16 * t.val + (l 0).val else 2048) := by
  have h := scan_step (x := v l) (l := (l 0).val) ha (trip1_lt t) (l 0).isLt
  have e : k0_pay2 (F := F) 0#32 t acc v l
      = IntOp.minsi (acc l) (Scalar.select (IntOp.cmpi .ne (v (Shape.reshapeEquiv shapeCasts_S16_S16 l)) 0#32)
        (IntOp.addi (BitVec.ofNat 32 ([(0 : Fin 1)].foldl (fun n a => n * S16.size a + (l a).val) 0))
          (IntOp.muli (0#32 + BitVec.ofNat 32 t.val * 1#32) 16#32)) 2048#32) := rfl
  have hr : Shape.reshapeEquiv (s := S16) (s' := S16) shapeCasts_S16_S16 l = l := by
    have : ∀ l : S16.Idx, Shape.reshapeEquiv (s := S16) (s' := S16) shapeCasts_S16_S16 l = l := by decide +kernel
    exact this l
  have hf : [(0 : Fin 1)].foldl (fun n a => n * S16.size a + (l a).val) 0 = (l 0).val := by simp
  rw [e, hr, hf]; exact h

end Cert.Proof.EmbedIdeal

end

end
-- ==== Proof.TileIdeal.lean ====
/-
  One task of the kernel, run: it fetches its row of the input, scans it for the first word that is not zero, and copies
  sixteen chunks of the table to its part of the output, the rows shifted by that place.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.OffsetsIdeal

@[expose] public section

noncomputable section

namespace Cert.Proof.EmbedIdeal

open Cert.KernelIdeal Cert.KernelIdeal.Gen
open Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flat input, the flat table, the flat output. -/
abbrev xLoc (d : Dev nD) : Loc nD τ sig := (SparseCore.T d).loc main_v2
abbrev tLoc (d : Dev nD) : Loc nD τ sig := (SparseCore.T d).loc main_v3
abbrev oLoc (d : Dev nD) : Loc nD τ sig := (SparseCore.T d).loc main_v4

local notation "xV" => (Memref.whole Cert.KernelIdeal.main_v2_scv : Memref Cert.KernelIdeal.sig Kind.scVector Space.hbm Cert.KernelIdeal.S32768 EltTy.i32)
local notation "tV" => (Memref.whole Cert.KernelIdeal.main_v3_scv : Memref Cert.KernelIdeal.sig Kind.scVector Space.hbm Cert.KernelIdeal.S4194304 EltTy.f32)
local notation "oV" => (Memref.whole Cert.KernelIdeal.main_v4_scv : Memref Cert.KernelIdeal.sig Kind.scVector Space.hbm Cert.KernelIdeal.S33554432 EltTy.f32)
local notation "iV" => (Memref.whole Cert.KernelIdeal.cc0_scratch0 : Memref Cert.KernelIdeal.sig Kind.scVector Space.vmem Cert.KernelIdeal.S2048 EltTy.i32)
local notation "bV" => (Memref.whole Cert.KernelIdeal.cc0_scratch1 : Memref Cert.KernelIdeal.sig Kind.scVector Space.vmem Cert.KernelIdeal.S65536 EltTy.f32)

/-- The one coordinate of a flat array's index. -/
abbrev at1 {N : Nat} (n : Nat) (h : n < N) : (⟨1, ![N]⟩ : Shape).Idx := fun a => ⟨n, by
  have : a = 0 := Subsingleton.elim _ _
  subst this; exact h⟩

/-- Two indices of a flat array with the same coordinate are the same. -/
theorem idx_ext {N : Nat} {x y : (⟨1, ![N]⟩ : Shape).Idx} (h : (x 0).val = (y 0).val) : x = y := by
  funext a
  have ha : a = 0 := Subsingleton.elim _ _
  subst ha; exact Fin.ext h

/-- The flat input's word `n`, 0 beyond its end. -/
def wordAt (X : S32768.Idx → BitVec 32) (n : Nat) : BitVec 32 := if h : n < 32768 then X (at1 n h) else 0#32

/-- Row `b` of the flat input. -/
def rowWord (X : S32768.Idx → BitVec 32) (b p : Nat) : BitVec 32 := wordAt X (2048 * b + p)

/-- Where in the table the flat output's word `j` comes from: its row is `2048` rows down, less the first nonzero place
    of its batch. -/
def srcAt (X : S32768.Idx → BitVec 32) (j : Nat) : Nat :=
  (j / 1024 % 2048 + 2048 - origin (rowWord X (j / 2097152))) * 1024 + j % 1024

theorem srcAt_lt (X : S32768.Idx → BitVec 32) (j : Nat) : srcAt X j < 4194304 := by
  unfold srcAt; omega

/-- What the kernel leaves in the flat output. -/
def outAt (X : S32768.Idx → BitVec 32) (Tb : S4194304.Idx → Elt F .f32) : S33554432.Idx → Elt F .f32 :=
  fun j => Tb (at1 (srcAt X (j 0).val) (srcAt_lt X _))

/-! ## The task -/

section Tile

variable (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The task's part of the output: 1024 rows. -/
def partSet (w : Nat) : Finset S33554432.Idx := Finset.univ.filter fun j => w * 1048576 ≤ (j 0).val ∧ (j 0).val < (w + 1) * 1048576

/-- The chunk of the output the task writes in trip `t`, as the body slices it. -/
abbrev chunk (L : grid0.Coords) (t : Fin k0_t2_loop.trips) : Memref sig .scVector .hbm S65536 .f32 :=
  (oV).slice (Rect.unit (s := S33554432) (k0_off4 L t) S65536.size (k0_off4_inb L t)) (fun _ => rfl)

theorem mem_chunk (t : Fin k0_t2_loop.trips) (j : S33554432.Idx) :
    j ∈ (chunk L t).view.set ↔ (wid L * 1024 + 64 * t.val) * 1024 ≤ (j 0).val ∧ (j 0).val < (wid L * 1024 + 64 * t.val) * 1024 + 65536 := by
  have e : (chunk L t).view.set = (Rect.unit (s := S33554432) (k0_off4 L t) S65536.size (k0_off4_inb L t)).set :=
    View.set_slice_whole (main_v4_scv : Ref sig .scVector) _
  rw [e, Rect.mem_set_unit]
  constructor
  · intro h
    have := h 0
    rw [off4_eq] at this
    exact this
  · intro h a
    have ha : a = 0 := Subsingleton.elim _ _
    subst ha
    rw [off4_eq]
    exact h

theorem chunk_subset (t : Fin k0_t2_loop.trips) : (chunk L t).view.set ⊆ partSet (wid L) := by
  intro j hj
  have := (mem_chunk L t j).mp hj
  have ht := trip2_lt t
  refine Finset.mem_filter.mpr ⟨Finset.mem_univ _, ?_⟩
  omega

variable [FloatOps F]
variable (X : S32768.Idx → BitVec 32) (Tb : S4194304.Idx → Elt F .f32) (f0 : S33554432.Idx → Elt F .f32)

/-- The output with the task's first `k` chunks written. -/
def outUpTo (L : grid0.Coords) (k : Nat) : S33554432.Idx → Elt F .f32 :=
  fun j => if (j 0).val < (wid L * 1024 + 64 * k) * 1024 then outAt X Tb j else f0 j

/-- The task's row of the input, as the index buffer holds it. -/
def rowBuf (L : grid0.Coords) : S2048.Idx → BitVec 32 := fun p => rowWord X (wid L / 2) (p 0).val

/-- What a lane holds after `k` trips of the scan: the first of its places so far whose word is not zero, 2048 for none. -/
def Scanned (L : grid0.Coords) (k : Nat) (acc : IVec S16 32) : Prop :=
  ∀ l : S16.Idx, ∀ n : Nat, n ≤ (acc l).toNat ↔
    n ≤ 2048 ∧ ∀ t < k, rowWord X (wid L / 2) (16 * t + (l 0).val) ≠ 0#32 → n ≤ 16 * t + (l 0).val

/-- The scan's invariant: the index buffer holds the row, and the carry is scanned so far. -/
def inv1 (k : Nat) (acc : IVec S16 32) : sProp 𝕄 :=
  iprop(⌜Scanned X L k acc⌝ ∗ ((iV).view.loc (VT d L) ↦{fullShare} rowBuf X L))

/-- A trip of the scan reads the row's next sixteen words. -/
theorem load_apply (k : Fin k0_t1_loop.trips) (l : S16.Idx) :
    View.readAt (Elt F) (iV).view (Rect.unit (s := S2048) (k0_off2 k) S16.size (k0_off2_inb k)).toLoadRect (rowBuf X L) l
      = rowWord X (wid L / 2) (16 * k.val + (l 0).val) := by
  show rowWord X (wid L / 2) (k0_off2 k 0 + 1 * (l 0).val) = _
  rw [k0_off2_eq]
  show rowWord X (wid L / 2) (16 * k.val + 1 * (l 0).val) = _
  rw [Nat.one_mul]

/-- A trip scans one more place of every lane. -/
theorem scanned_succ (k : Fin k0_t1_loop.trips) (acc : IVec S16 32) (v : Vec F S16 .i32)
    (hv : ∀ l, v l = rowWord X (wid L / 2) (16 * k.val + (l 0).val)) (hs : Scanned X L k.val acc) :
    Scanned X L (k.val + 1) (k0_pay2 (F := F) 0#32 k acc v) := by
  intro l n
  have ha : (acc l).toNat ≤ 2048 := ((hs l _).mp le_rfl).1
  rw [pay2_toNat k acc v l ha, le_min_iff, hs l n, hv l]
  constructor
  · rintro ⟨⟨h1, h2⟩, h3⟩
    refine ⟨h1, fun t ht hw => ?_⟩
    rcases Nat.lt_succ_iff_lt_or_eq.mp ht with ht | rfl
    · exact h2 t ht hw
    · rw [if_pos hw] at h3; exact h3
  · rintro ⟨h1, h2⟩
    refine ⟨⟨h1, fun t ht hw => h2 t (Nat.lt_succ_of_lt ht) hw⟩, ?_⟩
    split
    · next hw => exact h2 k.val (Nat.lt_succ_self _) hw
    · exact h1

/-- The scan starts with 2048 in every lane. -/
theorem scanned_zero : Scanned X L 0 k0_pay1 := by
  intro l n
  rw [pay1_apply]
  exact ⟨fun h => ⟨h, fun t ht => absurd ht (Nat.not_lt_zero t)⟩, fun h => h.1⟩

theorem trip1 (k : Fin k0_t1_loop.trips) (acc : IVec S16 32) (v29 : BitVec 32) (v31 : IVec S16 32) :
    (inv1 (F := F) d L X k.val acc) ⊢ wp frame (wpE (defs₀ (F := F)) 𝒱₀ (VT d L) none) Set.univ
      (k0_t1_body L xV (Memref.isWhole_whole _) tV (Memref.isWhole_whole _) oV (Memref.isWhole_whole _) iV (Memref.isWhole_whole _)
        bV (Memref.isWhole_whole _) cc0_scoped0 cc0_scoped1 cc0_scoped2 v29 v31 0#32 k acc)
      (inv1 (F := F) d L X (k.val + 1)) := by
  unfold inv1
  iintro ⟨%hs, Hi⟩
  sl_unfold [k0_t1_body]
  sl_exec
  sl_step
  isplitr
  · ipureintro
    exact scanned_succ L X k acc _ (load_apply (F := F) L X k) hs
  · iexact Hi

/-- The copy loop's invariant: the first `k` chunks of the task's part are written, the chunk buffer holds anything, the
    two counters stand at zero. -/
def inv2 (q : PosShare TreeShare) (O : CellTallies nD τ sig (HIx 1)) (k : Nat) (_ : BitVec 32) : sProp 𝕄 :=
  iprop(Transfers.MayWaits (VT d L) (default : HIx 1) O
    ∗ ((tV).view.loc (VT d L) ↦{q} Tb)
    ∗ ((oV).view.loc (VT d L) ↦[partSet (wid L)]{fullShare} outUpTo X Tb f0 L k)
    ∗ (∃ g, (bV).view.loc (VT d L) ↦{fullShare} g)
    ∗ semVal (VT d L, SemLoc.dma cc0_scoped1.sem) 0
    ∗ semVal (VT d L, SemLoc.dma cc0_scoped2.sem) 0
    ∗ ∃ W', owes (VT d L) O W')

/-- The chunk's elements, in the chunk's spelling. -/
theorem pts_chunk (t : Fin k0_t2_loop.trips) (f : S33554432.Idx → Elt F .f32) :
    ((oV).view.loc (VT d L) ↦[(chunk L t).view.set]{fullShare} f : sProp 𝕄)
      = (chunk L t).view.loc (VT d L) ↦[(chunk L t).view.set]{fullShare} f := rfl

section Trip2

variable (a0 a1 a2 a3 a4 a5 a6 a7 a8 a9 a10 a11 a12 a13 a14 a15 : BitVec 32)

/-- A chunk, once copied, holds the output there. -/
theorem chunk_done (hw : k0_chk1 L a0 a1 a2 a3 a4 a5 a6 a7 a8 a9 a10 a11 a12 a13 a14 a15)
    (hoff : ∀ t, k0_off3 L a0 a1 a2 a3 a4 a5 a6 a7 a8 a9 a10 a11 a12 a13 a14 a15 t 0
      = (1024 * (wid L % 2) + 2048 - origin (rowWord X (wid L / 2)) + 64 * t.val) * 1024)
    (k : Fin k0_t2_loop.trips) (w : S65536.Idx → Elt F .f32)
    (hpay : ∀ x : S65536.Idx, w x
      = Tb ((Rect.unit (s := S4194304) (k0_off3 L a0 a1 a2 a3 a4 a5 a6 a7 a8 a9 a10 a11 a12 a13 a14 a15 k) S65536.size
          (k0_off3_inb L a0 a1 a2 a3 a4 a5 a6 a7 a8 a9 a10 a11 a12 a13 a14 a15 hw k)).emb x)) :
    ((chunk L k).view.loc (VT d L) ↦[(chunk L k).view.set]{fullShare}
        (chunk L k).view.writes (Elt F) (outUpTo X Tb f0 L k.val) [⟨Rect.whole S65536, w⟩] : sProp 𝕄)
      = (oV).view.loc (VT d L) ↦[(chunk L k).view.set]{fullShare} outUpTo X Tb f0 L (k.val + 1) := by
  rw [← pts_chunk]
  refine pointsTo_congr fun j hj => ?_
  obtain ⟨x, -, hx⟩ := Finset.mem_map.mp hj
  subst hx
  have hx : (x 0).val < 65536 := (x 0).isLt
  have ho := origin_lt (rowWord X (wid L / 2))
  have hk := trip2_lt k
  have e1 := congrFun (View.read_writes_whole (chunk L k).view (outUpTo X Tb f0 L k.val) w) x
  have e2 : (((chunk L k).view.emb x) 0).val = (wid L * 1024 + 64 * k.val) * 1024 + (x 0).val := by
    show k0_off4 L k 0 + 1 * (x 0).val = _
    rw [off4_eq, Nat.one_mul]
  rw [View.read_apply, cast_eq] at e1
  refine e1.trans ?_
  rw [hpay x]
  unfold outUpTo outAt
  rw [if_pos (by rw [e2]; omega)]
  refine congrArg Tb (idx_ext ?_)
  show k0_off3 L a0 a1 a2 a3 a4 a5 a6 a7 a8 a9 a10 a11 a12 a13 a14 a15 k 0 + 1 * (x 0).val = srcAt X _
  rw [hoff, e2]
  unfold srcAt
  have hb : ((wid L * 1024 + 64 * k.val) * 1024 + (x 0).val) / 2097152 = wid L / 2 := by omega
  rw [hb]
  omega

/-- Outside the chunk nothing changes. -/
theorem rest_done (k : Fin k0_t2_loop.trips) :
    ((oV).view.loc (VT d L) ↦[partSet (wid L) \ (chunk L k).view.set]{fullShare} outUpTo X Tb f0 L k.val : sProp 𝕄)
      = (oV).view.loc (VT d L) ↦[partSet (wid L) \ (chunk L k).view.set]{fullShare} outUpTo X Tb f0 L (k.val + 1) := by
  refine pointsTo_congr fun j hj => ?_
  have hn := (Finset.mem_sdiff.mp hj).2
  rw [mem_chunk] at hn
  unfold outUpTo
  split <;> split <;> first | rfl | omega

theorem trip2 (q : PosShare TreeShare) (O : CellTallies nD τ sig (HIx 1))
    (hw : k0_chk1 L a0 a1 a2 a3 a4 a5 a6 a7 a8 a9 a10 a11 a12 a13 a14 a15)
    (hoff : ∀ t, k0_off3 L a0 a1 a2 a3 a4 a5 a6 a7 a8 a9 a10 a11 a12 a13 a14 a15 t 0
      = (1024 * (wid L % 2) + 2048 - origin (rowWord X (wid L / 2)) + 64 * t.val) * 1024)
    (k : Fin k0_t2_loop.trips) (acc : BitVec 32) :
    (inv2 (F := F) d L X Tb f0 q O k.val acc) ⊢ wp frame (wpE (defs₀ (F := F)) 𝒱₀ (VT d L) none) Set.univ
      (k0_t2_body L xV (Memref.isWhole_whole _) tV (Memref.isWhole_whole _) oV (Memref.isWhole_whole _) iV (Memref.isWhole_whole _)
        bV (Memref.isWhole_whole _) cc0_scoped0 cc0_scoped1 cc0_scoped2 a0 a1 a2 a3 a4 a5 a6 a7 a8 a9 a10 a11 a12 a13 a14 a15 hw k acc)
      (inv2 (F := F) d L X Tb f0 q O (k.val + 1)) := by
  unfold inv2
  iintro ⟨#Hmw, Ht, Ho, ⟨%g, Hb⟩, Hs1, Hs2, %W, HO⟩
  ihave Ho' := (pointsTo_split_subset (chunk_subset L k)).1 $$ Ho
  icases Ho' with ⟨Hc, Hr⟩
  ihave Hc' := (Entails.of_eq (pts_chunk (F := F) d L k _)) $$ Hc
  sl_unfold [k0_t2_body]
  sl_exec (disch := exact View.amount_pos _ _ (show 0 < S65536.numel by decide))
  have hpay : ∀ x : S65536.Idx, trip2.sl.dma0_1 d L Tb a0 a1 a2 a3 a4 a5 a6 a7 a8 a9 a10 a11 a12 a13 a14 a15 hw k g x
      = Tb ((Rect.unit (s := S4194304) (k0_off3 L a0 a1 a2 a3 a4 a5 a6 a7 a8 a9 a10 a11 a12 a13 a14 a15 k) S65536.size
          (k0_off3_inb L a0 a1 a2 a3 a4 a5 a6 a7 a8 a9 a10 a11 a12 a13 a14 a15 hw k)).emb x) := by
    intro x
    unfold trip2.sl.dma0_1
    rw [View.write_whole_univ]
    rfl
  sl_step
  isplitl [Hmw]; · iexact Hmw
  isplitl [Ht]; · iexact Ht
  isplitl [Hr Hc']
  · ihave Hc := (Entails.of_eq (chunk_done (F := F) d L X Tb f0 a0 a1 a2 a3 a4 a5 a6 a7 a8 a9 a10 a11 a12 a13 a14 a15 hw hoff k _ hpay)) $$ Hc'
    ihave Hr' := (Entails.of_eq (rest_done (F := F) d L X Tb f0 k)) $$ Hr
    iapply (pointsTo_split_subset (chunk_subset L k)).2
    isplitl [Hc] <;> iassumption
  isplitl [Hb]; · iexists _; iexact Hb
  isplitl [Hs1]; · iexact Hs1
  isplitl [Hs2]; · iexact Hs2
  iexists _; iexact HO

end Trip2

/-! ### The sixteen lanes after the scan -/

/-- Taking lane `n` out of a vector: the one-lane slice at `n`, its one entry. -/
theorem extract_lane (acc : IVec S16 32) (n : Nat) (h : n < 16) (hs : S16.Slices ![n] S1) :
    extractAt ![0] (extractStridedSlice S1 ![n] acc hs) inpos_S1_p0 = acc (at1 n h) :=
  congrArg acc (idx_ext (show n + 0 = n from rfl))

/-- The lanes of a vector, in order, as the kernel takes them out. -/
def lanes (acc : IVec S16 32) : List (BitVec 32) :=
  [extractAt ![0] (k0_pay3 acc) inpos_S1_p0, extractAt ![0] (k0_pay4 acc) inpos_S1_p0, extractAt ![0] (k0_pay5 acc) inpos_S1_p0, extractAt ![0] (k0_pay6 acc) inpos_S1_p0, extractAt ![0] (k0_pay7 acc) inpos_S1_p0, extractAt ![0] (k0_pay8 acc) inpos_S1_p0, extractAt ![0] (k0_pay9 acc) inpos_S1_p0, extractAt ![0] (k0_pay10 acc) inpos_S1_p0, extractAt ![0] (k0_pay11 acc) inpos_S1_p0, extractAt ![0] (k0_pay12 acc) inpos_S1_p0, extractAt ![0] (k0_pay13 acc) inpos_S1_p0, extractAt ![0] (k0_pay14 acc) inpos_S1_p0, extractAt ![0] (k0_pay15 acc) inpos_S1_p0, extractAt ![0] (k0_pay16 acc) inpos_S1_p0, extractAt ![0] (k0_pay17 acc) inpos_S1_p0, extractAt ![0] (k0_pay18 acc) inpos_S1_p0]

theorem lanes_eq (acc : IVec S16 32) : lanes acc = List.ofFn fun l : Fin 16 => acc (at1 l.val l.isLt) := by
  have h : lanes acc = [acc (at1 0 (by decide)), acc (at1 1 (by decide)), acc (at1 2 (by decide)), acc (at1 3 (by decide)), acc (at1 4 (by decide)), acc (at1 5 (by decide)), acc (at1 6 (by decide)), acc (at1 7 (by decide)), acc (at1 8 (by decide)), acc (at1 9 (by decide)), acc (at1 10 (by decide)), acc (at1 11 (by decide)), acc (at1 12 (by decide)), acc (at1 13 (by decide)), acc (at1 14 (by decide)), acc (at1 15 (by decide))] := by
    unfold lanes k0_pay3 k0_pay4 k0_pay5 k0_pay6 k0_pay7 k0_pay8 k0_pay9 k0_pay10 k0_pay11 k0_pay12 k0_pay13 k0_pay14 k0_pay15 k0_pay16 k0_pay17 k0_pay18
    rw [extract_lane acc 0 (by decide), extract_lane acc 1 (by decide), extract_lane acc 2 (by decide), extract_lane acc 3 (by decide), extract_lane acc 4 (by decide), extract_lane acc 5 (by decide), extract_lane acc 6 (by decide), extract_lane acc 7 (by decide), extract_lane acc 8 (by decide), extract_lane acc 9 (by decide), extract_lane acc 10 (by decide), extract_lane acc 11 (by decide), extract_lane acc 12 (by decide), extract_lane acc 13 (by decide), extract_lane acc 14 (by decide), extract_lane acc 15 (by decide)]
  rw [h]
  simp [List.ofFn_succ]

/-- What holds of every lane of the list holds of every lane of the vector. -/
theorem forall_lanes (acc : IVec S16 32) (P : BitVec 32 → Prop) : (∀ x ∈ lanes acc, P x) ↔ ∀ l : S16.Idx, P (acc l) := by
  rw [lanes_eq]
  constructor
  · intro h l
    have e : l = at1 (l 0).val (l 0).isLt := idx_ext rfl
    rw [e]
    exact h _ ((List.mem_ofFn' _ _).mpr ⟨l 0, rfl⟩)
  · intro h x hx
    obtain ⟨l, rfl⟩ := (List.mem_ofFn' _ _).mp hx
    exact h _

theorem lanes_le (acc : IVec S16 32) (hs : Scanned X L 128 acc) : ∀ x ∈ lanes acc, x.toNat ≤ 2048 :=
  (forall_lanes acc fun x => x.toNat ≤ 2048).mpr fun l => ((hs l _).mp le_rfl).1

/-- The least of the lanes is the row's first nonzero place. -/
theorem least_lanes (acc : IVec S16 32) (hs : Scanned X L 128 acc) :
    (least (lanes acc)).toNat = firstIdx (rowWord X (wid L / 2)) := by
  have key : ∀ n, n ≤ (least (lanes acc)).toNat ↔ n ≤ firstIdx (rowWord X (wid L / 2)) := by
    intro n
    rw [le_least (lanes_le L X acc hs), le_firstIdx, forall_lanes acc fun x => n ≤ x.toNat]
    constructor
    · rintro ⟨h1, h2⟩
      refine ⟨h1, fun p hp hw => ?_⟩
      have h3 := ((hs (at1 (p % 16) (Nat.mod_lt _ (by decide))) n).mp (h2 _)).2 (p / 16) (by omega)
      have e : 16 * (p / 16) + p % 16 = p := Nat.div_add_mod p 16
      have h4 : rowWord X (wid L / 2) (16 * (p / 16) + p % 16) ≠ 0#32 → n ≤ 16 * (p / 16) + p % 16 := h3
      rw [e] at h4
      exact h4 hw
    · rintro ⟨h1, h2⟩
      refine ⟨h1, fun l => (hs l n).mpr ⟨h1, fun t ht hw => h2 _ ?_ hw⟩⟩
      have : (l 0).val < 16 := (l 0).isLt
      omega
  exact le_antisymm ((key _).mp le_rfl) ((key _).mpr le_rfl)

/-- The check on the lanes holds. -/
theorem chk_lanes (acc : IVec S16 32) (hs : Scanned X L 128 acc) :
    k0_chk1 L (extractAt ![0] (k0_pay3 acc) inpos_S1_p0) (extractAt ![0] (k0_pay4 acc) inpos_S1_p0) (extractAt ![0] (k0_pay5 acc) inpos_S1_p0) (extractAt ![0] (k0_pay6 acc) inpos_S1_p0) (extractAt ![0] (k0_pay7 acc) inpos_S1_p0) (extractAt ![0] (k0_pay8 acc) inpos_S1_p0) (extractAt ![0] (k0_pay9 acc) inpos_S1_p0) (extractAt ![0] (k0_pay10 acc) inpos_S1_p0) (extractAt ![0] (k0_pay11 acc) inpos_S1_p0) (extractAt ![0] (k0_pay12 acc) inpos_S1_p0) (extractAt ![0] (k0_pay13 acc) inpos_S1_p0) (extractAt ![0] (k0_pay14 acc) inpos_S1_p0) (extractAt ![0] (k0_pay15 acc) inpos_S1_p0) (extractAt ![0] (k0_pay16 acc) inpos_S1_p0) (extractAt ![0] (k0_pay17 acc) inpos_S1_p0) (extractAt ![0] (k0_pay18 acc) inpos_S1_p0) :=
  chk1_of_le L _ _ _ _ _ _ _ _ _ _ _ _ _ _ _ _ (lanes_le L X acc hs)

/-- The table offset of chunk `t`, the lanes scanned. -/
theorem off3_lanes (acc : IVec S16 32) (hs : Scanned X L 128 acc) {a0 a1 a2 a3 a4 a5 a6 a7 a8 a9 a10 a11 a12 a13 a14 a15 : BitVec 32}
    (h : [a0, a1, a2, a3, a4, a5, a6, a7, a8, a9, a10, a11, a12, a13, a14, a15] = lanes acc) (t : Fin k0_t2_loop.trips) :
    k0_off3 L a0 a1 a2 a3 a4 a5 a6 a7 a8 a9 a10 a11 a12 a13 a14 a15 t 0
      = (1024 * (wid L % 2) + 2048 - origin (rowWord X (wid L / 2)) + 64 * t.val) * 1024 := by
  rw [off3_eq L _ _ _ _ _ _ _ _ _ _ _ _ _ _ _ _ (h ▸ lanes_le L X acc hs) t, h, least_lanes L X acc hs]
  rfl

/-! ### The task's run -/

/-- Before the first chunk the task's part is as it was; after the last it holds the output. -/
theorem part_start : ((oV).view.loc (VT d L) ↦[partSet (wid L)]{fullShare} f0 : sProp 𝕄)
    = (oV).view.loc (VT d L) ↦[partSet (wid L)]{fullShare} outUpTo X Tb f0 L 0 := by
  refine pointsTo_congr fun j hj => ?_
  have := (Finset.mem_filter.mp hj).2
  unfold outUpTo
  rw [if_neg (by omega)]

theorem part_end {n : Nat} (hn : n = 16) : ((oV).view.loc (VT d L) ↦[partSet (wid L)]{fullShare} outUpTo X Tb f0 L n : sProp 𝕄)
    = (oV).view.loc (VT d L) ↦[partSet (wid L)]{fullShare} outAt X Tb := by
  refine pointsTo_congr fun j hj => ?_
  have := (Finset.mem_filter.mp hj).2
  subst hn
  unfold outUpTo
  rw [if_pos (by omega)]

/-- The index buffer, the row's copy landed, holds the row. -/
theorem pts_row (g0 : Buf (Elt F) ((iV).view.loc (VT d L))) (v : Vec F S2048 .i32)
    (hv : ∀ x : S2048.Idx, v x = X ((Rect.unit (s := S32768) (k0_off1 L) S2048.size (k0_off1_inb L)).emb x)) :
    ((iV).view.loc (VT d L) ↦{fullShare} View.write (Elt F) (iV).view g0 v Finset.univ : sProp 𝕄)
      = (iV).view.loc (VT d L) ↦{fullShare} rowBuf X L := by
  refine pointsTo_congr fun p _ => ?_
  rw [View.write_whole_univ]
  refine (hv p).trans ?_
  have hp : (p 0).val < 2048 := (p 0).isLt
  have hw := wid_lt L
  unfold rowBuf rowWord wordAt
  rw [dif_pos (by omega)]
  refine congrArg X (idx_ext ?_)
  show k0_off1 L 0 + 1 * (p 0).val = 2048 * (wid L / 2) + (p 0).val
  rw [off1_eq]; omega

set_option maxHeartbeats 1000000 in
/-- A task's run: from its shares of the row words and the table and its part of the output, the part
ends as the output the tables determine, everything else as it was. -/
theorem tile_run (qx qt : PosShare TreeShare) (O : CellTallies nD τ sig (HIx 1)) (W : Waits sig (HIx 1))
    (g0 : Buf (Elt F) ((iV).view.loc (VT d L))) (b0 : Buf (Elt F) ((bV).view.loc (VT d L))) :
    (iprop(Transfers.MayWaits (VT d L) (default : HIx 1) O
        ∗ ((xV).view.loc (VT d L) ↦{qx} X)
        ∗ ((tV).view.loc (VT d L) ↦{qt} Tb)
        ∗ ((oV).view.loc (VT d L) ↦[partSet (wid L)]{fullShare} f0)
        ∗ ((iV).view.loc (VT d L) ↦{fullShare} g0)
        ∗ ((bV).view.loc (VT d L) ↦{fullShare} b0)
        ∗ semVal (VT d L, SemLoc.dma cc0_scoped0.sem) 0
        ∗ semVal (VT d L, SemLoc.dma cc0_scoped1.sem) 0
        ∗ semVal (VT d L, SemLoc.dma cc0_scoped2.sem) 0
        ∗ owes (VT d L) O W) : sProp 𝕄)
      ⊢ wp frame (wpE (defs₀ (F := F)) 𝒱₀ (VT d L) none) Set.univ
          (cc0__pos_embed_body L xV (Memref.isWhole_whole _) tV (Memref.isWhole_whole _) oV (Memref.isWhole_whole _)
            iV (Memref.isWhole_whole _) bV (Memref.isWhole_whole _) cc0_scoped0 cc0_scoped1 cc0_scoped2)
          fun _ => iprop(((xV).view.loc (VT d L) ↦{qx} X)
            ∗ ((tV).view.loc (VT d L) ↦{qt} Tb)
            ∗ ((oV).view.loc (VT d L) ↦[partSet (wid L)]{fullShare} outAt X Tb)
            ∗ (∃ g, (iV).view.loc (VT d L) ↦{fullShare} g)
            ∗ (∃ g, (bV).view.loc (VT d L) ↦{fullShare} g)
            ∗ semVal (VT d L, SemLoc.dma cc0_scoped0.sem) 0
            ∗ semVal (VT d L, SemLoc.dma cc0_scoped1.sem) 0
            ∗ semVal (VT d L, SemLoc.dma cc0_scoped2.sem) 0
            ∗ ∃ W', owes (VT d L) O W') := by
  rw [cc0__pos_embed_body_eq_skeleton]
  unfold cc0__pos_embed_body_skel
  rw [k0_part1_eq_skeleton, k0_part2_eq_skeleton]
  unfold k0_part1_skel k0_part2_skel
  iintro ⟨#Hmw, Hx, Ht, Ho, Hi, Hb, Hs0, Hs1, Hs2, HO⟩
  sl_exec
  ihave Hi' := (Entails.of_eq (pts_row (F := F) d L X g0 (tile_run.sl.dma0 L X) fun x => rfl)) $$ Hi
  rw [wp_bind]
  sl_for (inv1 (F := F) d L X) $$ [Hi']
  case region =>
    intro k acc
    exact trip1 (F := F) d L X k acc _ _
  · unfold inv1
    isplitr
    · ipureintro; exact scanned_zero L X
    · iexact Hi'
  iintro %acc HI
  unfold inv1
  icases HI with ⟨%hs', Hi⟩
  have hs : Scanned X L 128 acc := trips1 ▸ hs'
  have hk1 := chk_lanes L X acc hs
  sl_exec
  sl_for (inv2 (F := F) d L X Tb f0 qt O) $$ [Hmw Ht Ho Hb Hs1 Hs2 HO]
  case region =>
    intro k acc'
    exact trip2 (F := F) d L X Tb f0 _ _ _ _ _ _ _ _ _ _ _ _ _ _ _ _ qt O _ (by exact off3_lanes L X acc hs rfl) k acc'
  · unfold inv2
    isplitl [Hmw]; · iexact Hmw
    isplitl [Ht]; · iexact Ht
    isplitl [Ho]; · iapply (Entails.of_eq (part_start (F := F) d L X Tb f0)); iexact Ho
    isplitl [Hb]; · iexists _; iexact Hb
    isplitl [Hs1]; · iexact Hs1
    isplitl [Hs2]; · iexact Hs2
    iexists _; iexact HO
  iintro %_ HI
  unfold inv2
  icases HI with ⟨-, Ht, Ho, Hb, Hs1, Hs2, HO⟩
  sl_exec
  sl_step
  isplitl [Hx]; · iexact Hx
  isplitl [Ht]; · iexact Ht
  isplitl [Ho]
  · iapply (Entails.of_eq (part_end (F := F) d L X Tb f0 trips2)); iexact Ho
  isplitl [Hi]; · iexists _; iexact Hi
  isplitl [Hb]; · iexact Hb
  isplitl [Hs0]; · iexact Hs0
  isplitl [Hs1]; · iexact Hs1
  isplitl [Hs2]; · iexact Hs2
  iexact HO

end Tile

end Cert.Proof.EmbedIdeal

end

end
-- ==== Proof.LaunchIdeal.lean ====
/-
  The kernel's launch: the host's operations before it, the thirty-two tasks, the reshape after it; what every run of the
  program ends with.
-/
module

public import proofs.«01_k».proof.Proof.TileIdeal

@[expose] public section

noncomputable section

namespace Cert.Proof.EmbedIdeal

open Cert.KernelIdeal Cert.KernelIdeal.Gen
open Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_v2_scv : Memref Cert.KernelIdeal.sig Kind.scVector Space.hbm Cert.KernelIdeal.S32768 EltTy.i32)
local notation "tV" => (Memref.whole Cert.KernelIdeal.main_v3_scv : Memref Cert.KernelIdeal.sig Kind.scVector Space.hbm Cert.KernelIdeal.S4194304 EltTy.f32)
local notation "oV" => (Memref.whole Cert.KernelIdeal.main_v4_scv : Memref Cert.KernelIdeal.sig Kind.scVector Space.hbm Cert.KernelIdeal.S33554432 EltTy.f32)
local notation "iV" => (Memref.whole Cert.KernelIdeal.cc0_scratch0 : Memref Cert.KernelIdeal.sig Kind.scVector Space.vmem Cert.KernelIdeal.S2048 EltTy.i32)
local notation "bV" => (Memref.whole Cert.KernelIdeal.cc0_scratch1 : Memref Cert.KernelIdeal.sig Kind.scVector Space.vmem Cert.KernelIdeal.S65536 EltTy.f32)

variable (m : (ℓ : Loc nD τ sig) → Buf (Elt F) ℓ) (ρ : Dev nD → PrngReg)

/-! ## The host's operations -/

abbrev a0' : DevRef τ sig := Proc.devRef .tc (main_arg0 : Ref sig .tc)
abbrev a1' : DevRef τ sig := Proc.devRef .tc (main_arg1 : Ref sig .tc)
abbrev cst' : DevRef τ sig := Proc.devRef .tc (main_cst : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev opCst : HloOp τ sig (Elt F) := StableHlo.nullary main_cst (constant S_ .f32 0x00000000#32)
abbrev opZero : HloOp τ sig (Elt F) := StableHlo.unary main_cst main_v0 (broadcastInDim S2048x1024 ![] bcast_S_S2048x1024)
abbrev opCat : HloOp τ sig (Elt F) := StableHlo.binary main_v0 main_arg1 main_v1
  (fun a b => concatenate S4096x1024 0 [⟨S2048x1024, a⟩, ⟨S2048x1024, b⟩] concatenates_S2048x1024_S2048x1024_S4096x1024_d0)
abbrev opX : HloOp τ sig (Elt F) := StableHlo.reshape main_arg0 main_v2 rfl shapeCasts_S16x2048_S32768
abbrev opT : HloOp τ sig (Elt F) := StableHlo.reshape main_v1 main_v3 rfl shapeCasts_S4096x1024_S4194304
abbrev opOut : HloOp τ sig (Elt F) := StableHlo.reshape main_v4 main_v5 rfl shapeCasts_S33554432_S16x2048x1024

/-- The arrays at the launch, and after each of the five operations before the call. -/
def V0 (d : Dev nD) : Valuation τ sig (Elt F) := fun b => m (d, b)
abbrev V1 (d : Dev nD) : Valuation τ sig (Elt F) := (opCst (F := F)).result (V0 m d)
abbrev V2 (d : Dev nD) : Valuation τ sig (Elt F) := (opZero (F := F)).result (V1 m d)
abbrev V3 (d : Dev nD) : Valuation τ sig (Elt F) := (opCat (F := F)).result (V2 m d)
abbrev V4 (d : Dev nD) : Valuation τ sig (Elt F) := (opX (F := F)).result (V3 m d)
def V5 (d : Dev nD) : Valuation τ sig (Elt F) := (opT (F := F)).result (V4 m d)

/-- The flat input and the flat table at the call. -/
def XF (d : Dev nD) : S32768.Idx → BitVec 32 := V5 m d v2'
def TF (d : Dev nD) : S4194304.Idx → Elt F .f32 := V5 m d v3'
/-- The flat output before the call, and after it. -/
def O0 (d : Dev nD) : S33554432.Idx → Elt F .f32 := V5 m d v4'
def OF (d : Dev nD) : S33554432.Idx → Elt F .f32 := outAt (XF m d) (TF m d)

/-- The arrays after the call, and at the end. -/
def V6 (d : Dev nD) : Valuation τ sig (Elt F) := Function.update (V5 m d) v4' (OF m d)
def V7 (d : Dev nD) : Valuation τ sig (Elt F) := (opOut (F := F)).result (V6 m d)

/-! ## What the handshakes carry -/

/-- Task `w`'s share of an array all thirty-two tasks read. -/
def qOf (w : Nat) : PosShare TreeShare := if h : w < 32 then Transfers.dealOf fullShare Finset.univ (⟨w, h⟩ : Fin 32) else fullShare

/-- What task `w` is handed: a share of the input and of the table, its part of the output. -/
def given (d : Dev nD) (w : Nat) : sProp 𝕄 :=
  iprop((xLoc d ↦{qOf w} XF m d) ∗ (tLoc d ↦{qOf w} TF m d) ∗ (oLoc d ↦[partSet w]{fullShare} O0 m d))
/-- What it hands back: the shares, its part written. -/
def done (d : Dev nD) (w : Nat) : sProp 𝕄 :=
  iprop((xLoc d ↦{qOf w} XF m d) ∗ (tLoc d ↦{qOf w} TF m d) ∗ (oLoc d ↦[partSet w]{fullShare} OF m d))

instance given_storable (d : Dev nD) (w : Nat) : BI.Storable (upEmb : UEmb _ 𝕄) (given m d w) := by unfold given; infer_instance
instance done_storable (d : Dev nD) (w : Nat) : BI.Storable (upEmb : UEmb _ 𝕄) (done m d w) := by unfold done; infer_instance

/-- The call hands each SparseCore its sixteen tasks' pieces. -/
def P : (K (F := F)).Pay (nD := nD) (Val := Elt F) (Name := ℕ) (U := UU) where
  st := fun q d c => match q with | 0 => bigSep Finset.univ fun i : Fin ((K (F := F)).nSub 0) => given m d (16 * c.val + i.val)
  dn := fun q d c => match q with | 0 => bigSep Finset.univ fun i : Fin ((K (F := F)).nSub 0) => done m d (16 * c.val + i.val)
  go := fun q d c i => match q with | 0 => given m d (16 * c.val + i.val)
  td := fun q d c i => match q with | 0 => done m d (16 * c.val + i.val)
  x := fun _ _ => iprop(emp)

instance P_storable : (P (F := F) m).IsStorable where
  st q d c := match q with | 0 => (inferInstance : BI.Storable (upEmb : UEmb _ 𝕄) (bigSep Finset.univ fun i : Fin ((K (F := F)).nSub 0) => given m d (16 * c.val + i.val)))
  dn q d c := match q with | 0 => (inferInstance : BI.Storable (upEmb : UEmb _ 𝕄) (bigSep Finset.univ fun i : Fin ((K (F := F)).nSub 0) => done m d (16 * c.val + i.val)))
  go q d c i := match q with | 0 => (inferInstance : BI.Storable (upEmb : UEmb _ 𝕄) (given m d (16 * c.val + i.val)))
  td q d c i := match q with | 0 => (inferInstance : BI.Storable (upEmb : UEmb _ 𝕄) (done m d (16 * c.val + i.val)))

theorem vecSplit : (K (F := F)).VecSplit' (P m) 0 := by
  intro d c
  show (bigSep Finset.univ fun i : Fin ((K (F := F)).nSub 0) => given m d (16 * c.val + i.val))
    ⊢ |={Set.univ}=> iprop((bigSep Finset.univ fun i : Fin ((K (F := F)).nSub 0) => given m d (16 * c.val + i.val))
      ∗ ((bigSep Finset.univ fun i : Fin ((K (F := F)).nSub 0) => done m d (16 * c.val + i.val))
          -∗ bigSep Finset.univ fun i : Fin ((K (F := F)).nSub 0) => done m d (16 * c.val + i.val)))
  iintro H; imodintro
  isplitl [H]; · iexact H
  iintro H; iexact H

/-! ## The task's obligation -/

section Task

variable (d : Dev nD) (L : grid0.Coords)

/-- The task's three DMA semaphores, as the program numbers them. -/
abbrev csem (k : Nat) (hk : k < 3 := by decide) : DmaSem sig := ⟨k, hk⟩
abbrev dcell (c : Fin τ.nSC) (i : Fin τ.nSub) (k : Fin 3) : GSem nD τ sig := (V d c i, .dma (csem k.val k.isLt))

omit [FloatOps F] in
theorem dcell_mem (c : Fin τ.nSC) (i : Fin τ.nSub) (k : Fin 3) : dcell d c i k ∈ ownCells (V d c i) :=
  mem_ownCells.mpr ⟨rfl, (show ∀ s : DmaSem sig, (SemLoc.dma s : SemLoc sig).isScoped .scVector = true by decide) _⟩

omit [FloatOps F] in
/-- The subcore's own cells at zero: the three the task names, and the rest. -/
theorem ownSems0_V :
    (ownSems0 (VT d L) : sProp 𝕄)
      = iprop((semVal (VT d L, SemLoc.dma cc0_scoped0.sem) 0 ∗ semVal (VT d L, SemLoc.dma cc0_scoped1.sem) 0
            ∗ semVal (VT d L, SemLoc.dma cc0_scoped2.sem) 0)
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 3)) = {0, 1, 2} by decide,
    SparseCore.bigSep_insert' (by decide), SparseCore.bigSep_insert' (by decide), bigSep_singleton]
  rfl

omit [FloatOps F] in
/-- The two scratch buffers are among the subcore's own. -/
theorem ownBufs_V :
    (ownBufs (VT d L) : sProp 𝕄)
      = iprop((∃ f, (VT d L).loc cc0_scratch0 ↦{fullShare} f) ∗ (∃ f, (VT d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The task at grid coordinates `L`, from what the launch deals it to what it hands back. -/
theorem tile_body (O : CellTallies nD τ sig (HIx 1)) (W : Waits sig (HIx 1)) (hO : ∀ g, O g none = 0) :
    iprop(levAts (K (F := F)).L (K (F := F)).lev ∗ emp ∗ given m d (wid L)
        ∗ scopedBufs (VT d L) ∗ scopedSems0 (VT d L) ∗ owes (VT d L) O W)
      ⊢ wp frame (wpE (defs₀ (F := F)) 𝒱₀ (VT d L) none) Set.univ
          (cc0__pos_embed_body L xV (Memref.isWhole_whole _) tV (Memref.isWhole_whole _) oV (Memref.isWhole_whole _)
            iV (Memref.isWhole_whole _) bV (Memref.isWhole_whole _) cc0_scoped0 cc0_scoped1 cc0_scoped2)
          fun _ => iprop(done m d (wid L) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V facts d (cV L) (jV L), SparseCore.Cfg.scopedSems0_V (Val := Elt F) d (cV L) (jV L), ownSems0_V, ownBufs_V]
  unfold given done OF
  iintro ⟨#Hlv, -, ⟨Hx, Ht, Ho⟩, ⟨⟨%g0, HG⟩, ⟨%b0, HB⟩, Hbufs⟩, ⟨⟨Hs0, Hs1, Hs2⟩, Hsems⟩, HO⟩
  ihave Hmw := (show levAts (K (F := F)).L (K (F := F)).lev ⊢ Transfers.MayWaits (VT d L) (default : HIx 1) O from
    (K (F := F)).mayWaits_none (thr := VT d L) hO) $$ Hlv
  iapply (wp_wand_r Idealize.ShloMosaic.frame (wpE (defs₀ (F := F)) 𝒱₀ (VT d L) none) Set.univ)
  isplitl [Hx Ht Ho HG HB Hs0 Hs1 Hs2 HO]
  · iapply (tile_run d L (XF m d) (TF m d) (O0 m d) (qOf (wid L)) (qOf (wid L)) O W g0 b0)
    isplitr; · iexact Hmw
    isplitl [Hx]; · iexact Hx
    isplitl [Ht]; · iexact Ht
    isplitl [Ho]; · iexact Ho
    isplitl [HG]; · iexact HG
    isplitl [HB]; · iexact HB
    isplitl [Hs0]; · iexact Hs0
    isplitl [Hs1]; · iexact Hs1
    isplitl [Hs2]; · iexact Hs2
    iexact HO
  iintro %_ ⟨Hx, Ht, Ho, HG, HB, Hs0, Hs1, Hs2, ⟨%W', HO⟩⟩
  isplitl [Hx Ht Ho]
  · isplitl [Hx]; · iexact Hx
    isplitl [Ht]; · iexact Ht
    iexact Ho
  isplitl [HG HB Hbufs]
  · isplitl [HG]; · iexact HG
    isplitl [HB]; · iexact HB
    iexact Hbufs
  isplitl [Hs0 Hs1 Hs2 Hsems]
  · isplitl [Hs0 Hs1 Hs2]
    · isplitl [Hs0]; · iexact Hs0
      isplitl [Hs1]; · iexact Hs1
      iexact Hs2
    iexact Hsems
  iexists W'; isplitr
  · ipureintro; intro p _
    rcases p.2 with _ | q
    · exact .inr (.inl rfl)
    · exact .inr (.inr (congrArg some (Subsingleton.elim q 0)))
  · iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__pos_embed_body (coordsV c s)
          xV (Memref.isWhole_whole _) tV (Memref.isWhole_whole _) oV (Memref.isWhole_whole _)
          iV (Memref.isWhole_whole _) bV (Memref.isWhole_whole _) cc0_scoped0 cc0_scoped1 cc0_scoped2) ⟨⟩ c s := rfl

theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) O W hO

end Task

/-! ## The call's arrays, dealt to the tasks and joined -/

omit [FloatOps F] in
/-- An array read by all tasks is its thirty-two shares. -/
theorem shares {ℓ : Loc nD τ sig} (f : Buf (Elt F) ℓ) :
    (ℓ ↦{fullShare} f : sProp 𝕄) = bigSep Finset.univ fun w : Fin 32 => ℓ ↦{qOf w.val} f := by
  rw [Transfers.pointsTo_deal (Finset.univ : Finset (Fin 32)) ⟨0, Finset.mem_univ _⟩ fullShare]
  exact bigSep_congr fun w _ => by rw [show qOf w.val = Transfers.dealOf fullShare Finset.univ w from dif_pos w.isLt]

theorem parts_disjoint : ∀ w ∈ (Finset.univ : Finset (Fin 32)), ∀ w' ∈ (Finset.univ : Finset (Fin 32)), w ≠ w' → Disjoint (partSet w.val) (partSet w'.val) := by
  intro w _ w' _ h
  refine Finset.disjoint_left.mpr fun j hj hj' => h (Fin.ext ?_)
  have h1 := (Finset.mem_filter.mp hj).2
  have h2 := (Finset.mem_filter.mp hj').2
  omega

theorem parts_cover : (Finset.univ : Finset (Fin 32)).biUnion (fun w => partSet w.val) = Finset.univ := by
  refine Finset.eq_univ_of_forall fun j => Finset.mem_biUnion.mpr ?_
  have hj : (j 0).val < 33554432 := (j 0).isLt
  refine ⟨⟨(j 0).val / 1048576, by omega⟩, Finset.mem_univ _, Finset.mem_filter.mpr ⟨Finset.mem_univ _, ?_⟩⟩
  show (j 0).val / 1048576 * 1048576 ≤ (j 0).val ∧ (j 0).val < ((j 0).val / 1048576 + 1) * 1048576
  omega

omit [FloatOps F] in
/-- The output is its thirty-two parts. -/
theorem parts (d : Dev nD) (f : Buf (Elt F) (oLoc d)) :
    (oLoc d ↦{fullShare} f : sProp 𝕄) = bigSep Finset.univ fun w : Fin 32 => oLoc d ↦[partSet w.val]{fullShare} f := by
  rw [← pointsTo_biUnion Finset.univ (ℓ := oLoc d) (fun w : Fin 32 => partSet w.val) parts_disjoint, parts_cover]; try rfl

omit [FloatOps F] in
/-- The thirty-two tasks, SparseCore by SparseCore. -/
theorem tasks (Φ : Nat → sProp 𝕄) :
    (bigSep Finset.univ fun c : Fin ((K (F := F)).nCore 0) => bigSep Finset.univ fun i : Fin ((K (F := F)).nSub 0) => Φ (16 * c.val + i.val))
      = bigSep Finset.univ fun w : Fin 32 => Φ w.val := by
  refine Eq.symm ?_
  rw [BI.bigSep_univ_equiv (finProdFinEquiv : Fin 2 × Fin 16 ≃ Fin (2 * 16)) (fun w : Fin 32 => Φ w.val), BI.bigSep_univ_prod]
  exact bigSep_congr fun c _ => bigSep_congr fun i _ => congrArg Φ (Nat.add_comm _ _)

theorem st0_eq (d : Dev nD) :
    (bigSep Finset.univ fun c : Fin ((K (F := F)).nCore 0) => (P m).st 0 d c)
      = (iprop((xLoc d ↦{fullShare} XF m d) ∗ (tLoc d ↦{fullShare} TF m d) ∗ (oLoc d ↦{fullShare} O0 m d)) : sProp 𝕄) := by
  refine (tasks (F := F) (given m d)).trans ?_
  unfold given
  rw [bigSep_sep', bigSep_sep', ← shares, ← shares, ← parts]

theorem dn0_eq (d : Dev nD) :
    (bigSep Finset.univ fun c : Fin ((K (F := F)).nCore 0) => (P m).dn 0 d c)
      = (iprop((xLoc d ↦{fullShare} XF m d) ∗ (tLoc d ↦{fullShare} TF m d) ∗ (oLoc d ↦{fullShare} OF m d)) : sProp 𝕄) := by
  refine (tasks (F := F) (done m d)).trans ?_
  unfold done
  rw [bigSep_sep', bigSep_sep', ← shares, ← shares, ← parts]

/-! ## The launch's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The arrays the call does not touch, and all of them. -/
abbrev Srest : Finset (DevRef τ sig) := {a0', a1', v5', cst', v0', v1'}
abbrev Sall : Finset (DevRef τ sig) := {v2', v3', v4', a0', a1', v5', cst', v0', v1'}

omit [FloatOps F] in
theorem held_all (d : Dev nD) (W : Valuation τ sig (Elt F)) :
    (held (T d) Sall W : sProp 𝕄)
      = iprop((xLoc d ↦{fullShare} W v2') ∗ (tLoc d ↦{fullShare} W v3') ∗ (oLoc d ↦{fullShare} W v4') ∗ held (T d) Srest W) := by
  unfold held Sall
  rw [SparseCore.bigSep_insert' (by decide), SparseCore.bigSep_insert' (by decide), SparseCore.bigSep_insert' (by decide)]

omit [FloatOps F] in
theorem held_rest (d : Dev nD) (W : Valuation τ sig (Elt F)) :
    (held (T d) Srest W : sProp 𝕄)
      = iprop(((SparseCore.T d).loc main_arg0 ↦{fullShare} W a0') ∗ ((SparseCore.T d).loc main_arg1 ↦{fullShare} W a1')
          ∗ ((SparseCore.T d).loc main_v5 ↦{fullShare} W v5') ∗ held (T d) {cst', v0', v1'} W) := by
  unfold held Srest
  rw [SparseCore.bigSep_insert' (by decide), SparseCore.bigSep_insert' (by decide), SparseCore.bigSep_insert' (by decide)]

omit [FloatOps F] in
theorem unscoped_held (d : Dev nD) : (unscopedBufs d (fun b => m ((SparseCore.T d).loc b)) : sProp 𝕄) = held (T d) Sall (V0 m d) := by
  unfold unscopedBufs held Sall
  rw [show (Finset.univ.filter fun b : Ref sig .tc => ¬ b.isScoped)
      = {main_v2, main_v3, main_v4, main_arg0, main_arg1, main_v5, main_cst, main_v0, main_v1} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

theorem V6_o (d : Dev nD) : V6 m d v4' = OF m d := Function.update_self _ _ _
theorem V6_ne (d : Dev nD) {b : DevRef τ sig} (h : b ≠ v4') : V6 m d b = V5 m d b := Function.update_of_ne h _ _

/-- The call changes none of the arrays outside it. -/
theorem held_rest_V6 (d : Dev nD) : (held (T d) Srest (V5 m d) : sProp 𝕄) = held (T d) Srest (V6 m d) := by
  unfold held
  exact bigSep_congr fun b hb => by rw [V6_ne m d (fun e => absurd (e ▸ hb) (by decide))]

theorem hCst : (opCst (F := F)).bufs ⊆ Sall := show ({cst'} : Finset (DevRef τ sig)) ⊆ Sall by decide
theorem hZero : (opZero (F := F)).bufs ⊆ Sall := show ({cst', v0'} : Finset (DevRef τ sig)) ⊆ Sall by decide
theorem hCat : (opCat (F := F)).bufs ⊆ Sall := show ({v0', a1', v1'} : Finset (DevRef τ sig)) ⊆ Sall by decide
theorem hX : (opX (F := F)).bufs ⊆ Sall := show ({a0', v2'} : Finset (DevRef τ sig)) ⊆ Sall by decide
theorem hT : (opT (F := F)).bufs ⊆ Sall := show ({v1', v3'} : Finset (DevRef τ sig)) ⊆ Sall by decide
theorem hOut : (opOut (F := F)).bufs ⊆ Sall := show ({v4', v5'} : Finset (DevRef τ sig)) ⊆ Sall by decide

/-- What @main leaves the claims: the arguments and the result. -/
abbrev FIN (d : Dev nD) : sProp 𝕄 :=
  iprop(((SparseCore.T d).loc main_arg0 ↦{fullShare} V7 m d a0') ∗ ((SparseCore.T d).loc main_arg1 ↦{fullShare} V7 m d a1')
    ∗ ((SparseCore.T d).loc main_v5 ↦{fullShare} V7 m d v5'))

/-- @main on device `d`: the five operations, the call, the reshape of its output. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opCst) (S := Sall) hCst (V := V0 m d)) $$ [Hb Hheld]
  · isplitl [Hb] <;> iassumption
  iintro ⟨Hb, Hheld⟩
  rw [wp_ret]; imodintro
  iapply (wp_hlo_within 𝒱 (SparseCore.T d) none Set.univ (op := opZero) (S := Sall) hZero (V := V1 m d)) $$ [Hb Hheld]
  · isplitl [Hb] <;> iassumption
  iintro ⟨Hb, Hheld⟩
  rw [wp_ret]; imodintro
  iapply (wp_hlo_within 𝒱 (SparseCore.T d) none Set.univ (op := opCat) (S := Sall) hCat (V := V2 m d)) $$ [Hb Hheld]
  · isplitl [Hb] <;> iassumption
  iintro ⟨Hb, Hheld⟩
  rw [wp_ret]; imodintro
  iapply (wp_hlo_within 𝒱 (SparseCore.T d) none Set.univ (op := opX) (S := Sall) hX (V := V3 m d)) $$ [Hb Hheld]
  · isplitl [Hb] <;> iassumption
  iintro ⟨Hb, Hheld⟩
  rw [wp_ret]; imodintro
  iapply (wp_hlo_within 𝒱 (SparseCore.T d) none Set.univ (op := opT) (S := Sall) hT (V := V4 m d)) $$ [Hb Hheld]
  · isplitl [Hb] <;> iassumption
  iintro ⟨Hb, Hheld⟩
  rw [wp_ret]; imodintro
  ihave Hh := (Entails.of_eq (show (held (T d) Sall ((opT (F := F)).result (V4 m d)) : sProp 𝕄)
    = iprop((xLoc d ↦{fullShare} XF m d) ∗ (tLoc d ↦{fullShare} TF m d) ∗ (oLoc d ↦{fullShare} O0 m d) ∗ held (T d) Srest (V6 m d)) from
      (held_all (F := F) d (V5 m d)).trans (by rw [held_rest_V6]; rfl))) $$ Hheld
  icases Hh with ⟨Hx, Ht, Ho, Hrest⟩
  iapply ((K (F := F)).wp_run (D (F := F)) 𝒱 (EH := EH) (P := P m) κ d 0) $$ [Hst Hx Ht Ho Hb Hrest Hts]
  isplitr; · iexact Hctx
  isplitl [Hst]; · iexact Hst
  isplitl [Hx Ht Ho]
  · rw [st0_eq]
    isplitl [Hx]; · iexact Hx
    isplitl [Ht]; · iexact Ht
    iexact Ho
  iintro ⟨Hst, Hdn⟩
  ihave Hdn' := (Entails.of_eq (dn0_eq m d)) $$ Hdn
  icases Hdn' with ⟨Hx, Ht, Ho⟩
  iapply (wp_hlo_within 𝒱 (SparseCore.T d) none Set.univ (op := opOut) (S := Sall) hOut (V := V6 m d)) $$ [Hb Hx Ht Ho Hrest]
  · isplitl [Hb]; · iexact Hb
    rw [held_all, V6_o, V6_ne m d (show v2' ≠ v4' by decide), V6_ne m d (show v3' ≠ v4' by decide)]
    isplitl [Hx]; · iexact Hx
    isplitl [Ht]; · iexact Ht
    isplitl [Ho]; · iexact Ho
    iexact Hrest
  iintro ⟨Hb, Hheld⟩
  ihave Hh := (Entails.of_eq (show (held (T d) Sall ((opOut (F := F)).result (V6 m d)) : sProp 𝕄) = _ from held_all (F := F) d (V7 m d))) $$ Hheld
  icases Hh with ⟨-, -, -, Hrest⟩
  ihave Hh := (Entails.of_eq (held_rest (F := F) d (V7 m d))) $$ Hrest
  icases Hh with ⟨H0, H1, H5, -⟩
  rw [wp_ret]; imodintro; imodintro
  isplitl [Hst]; · iexact Hst
  isplitr [Hb Hts]
  · isplitl [H0]; · iexact H0
    isplitl [H1]; · iexact H1
    iexact H5
  isplitl [Hb] <;> iassumption

/-- What the claims read of device `d`'s final state. -/
def fq (d : Dev nD) (s' : Phys nD τ sig (Elt F)) : Prop :=
  s'.mem.mem ((SparseCore.T d).loc main_arg0) = V7 m d a0' ∧ s'.mem.mem ((SparseCore.T d).loc main_arg1) = V7 m d a1'
    ∧ s'.mem.mem ((SparseCore.T d).loc main_v5) = V7 m d v5'

theorem hfin (d : Dev nD) (s' : Phys nD τ sig (Elt F)) : iprop(FIN m d ∗ SI s') ⊢ (⌜fq m d s'⌝ : sProp 𝕄) := by
  iintro ⟨⟨H0, H1, H5⟩, HSI⟩
  ihave H := (persistent_entails_right (SI_pointsTo_agree (st := s') (ℓ := (SparseCore.T d).loc main_arg0) (I := Finset.univ) (q := fullShare) (f := V7 m d a0'))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := V7 m d a1'))) $$ [HSI H1]
  · isplitl [HSI] <;> iassumption
  icases H with ⟨%h1, HSI, -⟩
  ihave H := (SI_pointsTo_agree (st := s') (ℓ := (SparseCore.T d).loc main_v5) (I := Finset.univ) (q := fullShare) (f := V7 m d v5')) $$ [HSI H5]
  · isplitl [HSI] <;> iassumption
  icases H with %h5
  ipureintro
  exact ⟨funext fun i => h0 i (Finset.mem_univ i), funext fun i => h1 i (Finset.mem_univ i), funext fun i => h5 i (Finset.mem_univ i)⟩

/-! ## The program's run -/

theorem V7_a0 (d : Dev nD) : V7 m d a0' = m ((SparseCore.T d).loc main_arg0) := by
  unfold V7
  rw [(opOut (F := F)).result_of_not_mem _ (show a0' ∉ ({v5'} : Finset (DevRef τ sig)) by decide), V6_ne m d (show a0' ≠ v4' by decide)]
  unfold V5 V4 V3 V2 V1
  rw [(opT (F := F)).result_of_not_mem _ (show a0' ∉ ({v3'} : Finset (DevRef τ sig)) by decide),
    (opX (F := F)).result_of_not_mem _ (show a0' ∉ ({v2'} : Finset (DevRef τ sig)) by decide),
    (opCat (F := F)).result_of_not_mem _ (show a0' ∉ ({v1'} : Finset (DevRef τ sig)) by decide),
    (opZero (F := F)).result_of_not_mem _ (show a0' ∉ ({v0'} : Finset (DevRef τ sig)) by decide),
    (opCst (F := F)).result_of_not_mem _ (show a0' ∉ ({cst'} : Finset (DevRef τ sig)) by decide)]
  rfl

theorem V7_a1 (d : Dev nD) : V7 m d a1' = m ((SparseCore.T d).loc main_arg1) := by
  unfold V7
  rw [(opOut (F := F)).result_of_not_mem _ (show a1' ∉ ({v5'} : Finset (DevRef τ sig)) by decide), V6_ne m d (show a1' ≠ v4' by decide)]
  unfold V5 V4 V3 V2 V1
  rw [(opT (F := F)).result_of_not_mem _ (show a1' ∉ ({v3'} : Finset (DevRef τ sig)) by decide),
    (opX (F := F)).result_of_not_mem _ (show a1' ∉ ({v2'} : Finset (DevRef τ sig)) by decide),
    (opCat (F := F)).result_of_not_mem _ (show a1' ∉ ({v1'} : Finset (DevRef τ sig)) by decide),
    (opZero (F := F)).result_of_not_mem _ (show a1' ∉ ({v0'} : Finset (DevRef τ sig)) by decide),
    (opCst (F := F)).result_of_not_mem _ (show a1' ∉ ({cst'} : Finset (DevRef τ sig)) by decide)]
  rfl

/-- What every run ends with: the result at `V7`, the arguments at their launch contents, every semaphore at zero. -/
def QC : PUnit × MemSt nD τ sig (Elt F) → Prop := fun r =>
  (∀ c : Dev nD, r.2.mem ((SparseCore.T c).loc main_v5) = V7 m c v5'
    ∧ r.2.mem ((SparseCore.T c).loc main_arg0) = m ((SparseCore.T c).loc main_arg0)
    ∧ r.2.mem ((SparseCore.T c).loc main_arg1) = m ((SparseCore.T c).loc main_arg1)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h hz => ⟨fun c => ⟨(h c).2.2, (h c).1.trans (V7_a0 m c), (h c).2.1.trans (V7_a1 m c)⟩, hz⟩)

/-- `Cert.quiescent_KernelIdeal`. -/
theorem frame : Cert.quiescent_KernelIdeal := fun m ρ _ =>
  (θ_run Cert.KernelIdeal.defs _ _).mono (fun _ h => ⟨fun c => (h.1 c).2, h.2⟩) (run_main (F := Ideal) m ρ)

end Cert.Proof.EmbedIdeal

end
-- ==== Proof.RefRun.lean ====
/-
  The run of the reference: its printed program is a straight line of host operations once the functions it calls are
  unfolded at their calls.  Every weakly fair execution ends, each buffer then holds what those operations compute one
  after the other from the launch contents, the two arguments are never written, and the program has no semaphore.
  `takenRows` … `answer` name the composed value of the result, a step of the reference each.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.Proof.Ref

open Idealize.ShloMosaic Idealize.ShloMosaic.TcCoe Idealize.ShloMosaic.StableHlo Idealize.SL.Sem
open Cert.ReferenceIdeal Cert.ReferenceIdeal.Gen

variable {F : FTy → Type} [FloatOps F]

/-- Which entries of the index table are not zero. -/
def nonzero (X : IVec S16x2048 32) : IVec S16x2048 1 :=
  cmpi .ne X (broadcastInDim S16x2048 ![] bcast_S_S16x2048 (constantI S_ 32 0#32))

/-- Per row the position of the first greatest entry of a table of bits. -/
def firstMax (M : IVec S16x2048 1) : IVec S16 32 := fun j =>
  (Host.reduce2 reducer_argmax_i1_i32 M (iotaInDim S16x2048 32 1) (constantI S_ 1 0#1) (constantI S_ 32 0#32)
    reducesTo_S16x2048_S16_d1 h_S_ j).2

/-- The position in the row less the row's origin. -/
def relative (A : IVec S16 32) : IVec S16x2048 32 :=
  subi (broadcastInDim S16x2048 ![0, 1] bcast_S1x2048_S16x2048_0_1
      (broadcastInDim S1x2048 ![1] bcast_S2048_S1x2048_1 (iotaInDim S2048 32 0)))
    (broadcastInDim S16x2048 ![0, 1] bcast_S16x1_S16x2048_0_1 (broadcastInDim S16x1 ![0] bcast_S16_S16x1_0 A))

/-- The relative position held between the table's first row and its last. -/
def clipped (R : IVec S16x2048 32) : IVec S16x2048 32 :=
  minsi (broadcastInDim S16x2048 ![] bcast_S_S16x2048 (constantI S_ 32 2047#32))
    (maxsi (broadcastInDim S16x2048 ![] bcast_S_S16x2048 (constantI S_ 32 0#32)) R)

/-- A row number with a negative one counted from the table's end. -/
def wrapped (C : IVec S16x2048 32) : IVec S16x2048x1 32 :=
  broadcastInDim S16x2048x1 ![0, 1] bcast_S16x2048_S16x2048x1_0_1
    (select (cmpi .slt C (broadcastInDim S16x2048 ![] bcast_S_S16x2048 (constantI S_ 32 0#32)))
      (addi C (broadcastInDim S16x2048 ![] bcast_S_S16x2048 (constantI S_ 32 2048#32))) C)

/-- Whether a row number lies in the table. -/
def inTable (W : IVec S16x2048x1 32) : IVec S16x2048 1 :=
  Host.reduce IntOp.andi
    (andi (cmpi .sge W (broadcastInDim S16x2048x1 ![] bcast_S_S16x2048x1 (constantI S_ 32 0#32)))
      (cmpi .sle W (broadcastInDim S16x2048x1 ![0, 1, 2] bcast_S1x1x1_S16x2048x1_0_1_2
        (broadcastInDim S1x1x1 ![2] bcast_S1_S1x1x1_2 (constantI S1 32 2047#32)))))
    (constantI S_ 1 1#1) reducesTo_S16x2048x1_S16x2048_d2 h_S_

/-- The table's rows at those numbers, a filler where the number is not in the table. -/
def takenRows (T : FVec F S2048x1024 .f32) (W : IVec S16x2048x1 32) : FVec F S16x2048x1024 .f32 :=
  select (broadcastInDim S16x2048x1024 ![0, 1] bcast_S16x2048_S16x2048x1024_0_1 (inTable W))
    (Host.gather gather_S2048x1024_S16x2048x1_S16x2048x1024_2_0_n_n_0_2_11024 T W)
    (broadcastInDim S16x2048x1024 ![] bcast_S_S16x2048x1024 (constant S_ .f32 0x7FC00000#32))

/-- The rows where the relative position is not negative, the zero constant elsewhere. -/
def masked (R : IVec S16x2048 32) (G : FVec F S16x2048x1024 .f32) : FVec F S16x2048x1024 .f32 :=
  select
    (broadcastInDim S16x2048x1024 ![0, 1, 2] bcast_S16x2048x1_S16x2048x1024_0_1_2
      (broadcastInDim S16x2048x1 ![0, 1] bcast_S16x2048_S16x2048x1_0_1
        (cmpi .sge R (broadcastInDim S16x2048 ![] bcast_S_S16x2048 (constantI S_ 32 0#32)))))
    G (broadcastInDim S16x2048x1024 ![] bcast_S_S16x2048x1024 (constant S_ .f32 0x00000000#32))

/-- What the reference computes from its two arguments. -/
def answer (X : IVec S16x2048 32) (T : FVec F S2048x1024 .f32) : FVec F S16x2048x1024 .f32 :=
  masked (relative (firstMax (nonzero X)))
    (takenRows T (wrapped (clipped (relative (firstMax (nonzero X))))))

/-- The reference's operations in order, the calls unfolded. -/
abbrev ops : List (HloOp τ sig (Elt F)) :=
  [ nullary main_c (constantI S_ 32 0#32),
    unary main_c main_v0 (broadcastInDim S16x2048 ![] bcast_S_S16x2048),
    binary main_arg0 main_v0 main_v1 (cmpi .ne),
    TRef.nullary main_call0.v0 (iotaInDim S16x2048 32 1),
    TRef.nullary main_call0.c (constantI S_ 1 0#1),
    TRef.nullary main_call0.c_0 (constantI S_ 32 0#32),
    TRef.quaternary (.of main_v1) main_call0.v0 main_call0.c main_call0.c_0 main_call0.v1_0 (fun x y u v j => (Host.reduce2 reducer_argmax_i1_i32 x y u v reducesTo_S16x2048_S16_d1 h_S_ j).1),
    TRef.quaternary (.of main_v1) main_call0.v0 main_call0.c main_call0.c_0 main_call0.v1_1 (fun x y u v j => (Host.reduce2 reducer_argmax_i1_i32 x y u v reducesTo_S16x2048_S16_d1 h_S_ j).2),
    nullary main_v3 (iotaInDim S2048 32 0),
    unary main_v3 main_v4 (broadcastInDim S1x2048 ![1] bcast_S2048_S1x2048_1),
    unary main_v2 main_v5 (broadcastInDim S16x1 ![0] bcast_S16_S16x1_0),
    unary main_v4 main_v6 (broadcastInDim S16x2048 ![0, 1] bcast_S1x2048_S16x2048_0_1),
    unary main_v5 main_v7 (broadcastInDim S16x2048 ![0, 1] bcast_S16x1_S16x2048_0_1),
    binary main_v6 main_v7 main_v8 subi,
    nullary main_c_0 (constantI S_ 32 0#32),
    nullary main_c_1 (constantI S_ 32 2047#32),
    TRef.unary (.of main_c_0) main_call1.v0 id,
    TRef.unary main_call1.v0 main_call1.v1 (broadcastInDim S16x2048 ![] bcast_S_S16x2048),
    TRef.binary main_call1.v1 (.of main_v8) main_call1.v2 maxsi,
    TRef.unary (.of main_c_1) main_call1.v3 id,
    TRef.unary main_call1.v3 main_call1.v4 (broadcastInDim S16x2048 ![] bcast_S_S16x2048),
    TRef.binary main_call1.v4 main_call1.v2 main_call1.v5 minsi,
    TRef.nullary main_call2.c (constantI S_ 32 0#32),
    TRef.unary main_call2.c main_call2.v0 (broadcastInDim S16x2048 ![] bcast_S_S16x2048),
    TRef.binary (.of main_v9) main_call2.v0 main_call2.v1 (cmpi .slt),
    TRef.nullary main_call2.c_0 (constantI S_ 32 2048#32),
    TRef.unary main_call2.c_0 main_call2.v2 (broadcastInDim S16x2048 ![] bcast_S_S16x2048),
    TRef.binary (.of main_v9) main_call2.v2 main_call2.v3 addi,
    TRef.ternary main_call2.v1 main_call2.v3 (.of main_v9) main_call2.call0.v0 select,
    TRef.unary main_call2.call0.v0 main_call2.v5 (broadcastInDim S16x2048x1 ![0, 1] bcast_S16x2048_S16x2048x1_0_1),
    TRef.nullary main_call2.c_1 (constantI S1 32 2047#32),
    TRef.nullary main_call2.c_2 (constantI S_ 32 0#32),
    TRef.unary main_call2.c_2 main_call2.v6 (broadcastInDim S16x2048x1 ![] bcast_S_S16x2048x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S16x2048x1 ![0, 1, 2] bcast_S1x1x1_S16x2048x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16x2048x1_S16x2048_d2 h_S_),
    TRef.binary (.of main_arg1) main_call2.v5 main_call2.v13 (fun x i => Host.gather gather_S2048x1024_S16x2048x1_S16x2048x1024_2_0_n_n_0_2_11024 x i),
    TRef.unary main_call2.v12 main_call2.v14 (broadcastInDim S16x2048x1024 ![0, 1] bcast_S16x2048_S16x2048x1024_0_1),
    TRef.nullary main_call2.cst (constant S_ .f32 0x7FC00000#32),
    TRef.unary main_call2.cst main_call2.v15 (broadcastInDim S16x2048x1024 ![] bcast_S_S16x2048x1024),
    TRef.ternary main_call2.v14 main_call2.v13 main_call2.v15 main_call2.v16 select,
    nullary main_c_2 (constantI S_ 32 0#32),
    unary main_c_2 main_v11 (broadcastInDim S16x2048 ![] bcast_S_S16x2048),
    binary main_v8 main_v11 main_v12 (cmpi .sge),
    unary main_v12 main_v13 (broadcastInDim S16x2048x1 ![0, 1] bcast_S16x2048_S16x2048x1_0_1),
    nullary main_cst (constant S_ .f32 0x00000000#32),
    TRef.unary (.of main_v13 : TRef sig ⟨S16x2048x1, .i1⟩) main_call3.v0 (broadcastInDim S16x2048x1024 ![0, 1, 2] bcast_S16x2048x1_S16x2048x1024_0_1_2),
    TRef.unary (.of main_cst : TRef sig ⟨S_, .f32⟩) main_call3.v1 (broadcastInDim S16x2048x1024 ![] bcast_S_S16x2048x1024),
    TRef.ternary main_call3.v0 (.of main_v10) main_call3.v1 main_call3.v2 select ]

set_option maxRecDepth 2048 in
/-- The reference is that straight line. -/
theorem main_eq (c : Dev nD) : main (F := F) c = seq ops := by
  simp only [main, fn_argmax.body, fn_clip.body, fn_where.body, fn_take.body, fn_where_0.body, seq, bind_assoc, pure_bind]

set_option maxRecDepth 2048 in
/-- The operations leave `answer` of the arguments in the result's buffer. -/
theorem out_eq (V : Valuation τ sig (Elt F)) :
    after ops V (main_v14 : DevRef τ sig) = answer (V (main_arg0 : DevRef τ sig)) (V (main_arg1 : DevRef τ sig)) := by
  after_results_simp
  simp only [TRef.ofBuf, TRef.toBuf, cast_cast, cast_eq, id_eq]
  unfold answer masked takenRows inTable wrapped clipped relative firstMax nonzero
  rfl

/-- No operation writes the index table. -/
theorem arg0_eq (V : Valuation τ sig (Elt F)) :
    after ops V (main_arg0 : DevRef τ sig) = V (main_arg0 : DevRef τ sig) := by
  simp only [after_cons, after_nil]
  rfl

/-- No operation writes the table of rows. -/
theorem arg1_eq (V : Valuation τ sig (Elt F)) :
    after ops V (main_arg1 : DevRef τ sig) = V (main_arg1 : DevRef τ sig) := by
  simp only [after_cons, after_nil]
  rfl

/-- The reference scopes no buffer. -/
theorem scopedRefs_eq : (Finset.univ.filter fun b : Ref sig .tc => b.isScoped) = ∅ := by decide
/-- The reference scopes no semaphore. -/
theorem scopedSems_eq : (Finset.univ.filter fun sm : SemLoc sig => sm.isScoped .tc) = ∅ := by decide

/-- Every operation names buffers of the TensorCore only. -/
theorem ops_sub : (ops : List (HloOp τ sig (Elt F))).Forall fun op => op.bufs ⊆ tcRefs τ sig :=
  ⟨nullary_bufs_sub .., unary_bufs_sub .., binary_bufs_sub .., nullary_bufs_sub .., nullary_bufs_sub .., nullary_bufs_sub ..,
    quaternary_bufs_sub .., quaternary_bufs_sub .., nullary_bufs_sub .., unary_bufs_sub .., unary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., nullary_bufs_sub .., unary_bufs_sub .., binary_bufs_sub ..,
    unary_bufs_sub .., nullary_bufs_sub .., unary_bufs_sub .., unary_bufs_sub .., ternary_bufs_sub ..⟩

/-- Every weakly fair execution of the reference ends, with each buffer at what the operations compute. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Its result and its arguments at the end. -/
theorem run_answer (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v14)
          = answer (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run _ _ _).mono (fun r h c => ⟨(h c main_v14).trans (out_eq _), (h c main_arg0).trans (arg0_eq _),
    (h c main_arg1).trans (arg1_eq _)⟩) (run_main m ρ)

/-- The reference ends in every weakly fair execution, its arguments as they were, every counter at zero. -/
theorem frame : Cert.quiescent_ReferenceIdeal := fun m g _ =>
  (θ_run _ _ _).mono (fun r h => ⟨fun c => ⟨(h c).2.1, (h c).2.2⟩, sem_eq_zero_of_no_sems (by decide) r.2⟩)
    (run_answer m g)

end Cert.Proof.Ref

end
-- ==== Proof.Scan.lean ====
/-
  The reference's search for a row's first nonzero word, read off its reduction: the body keeps the better of two pairs
  (bit, place), a pair being better with the greater bit, or with an equal bit and the smaller place.  A fold of it over
  any list ends with a best pair, so over a row's pairs it ends with the first place whose bit is set, or place 0.
-/
module

public import proofs.«01_k».proof.Proof.RefRun
public import proofs.«01_k».proof.Proof.Words
public import Idealize.ShloMosaic.PureOps.Reduce
public import Idealize.ShloMosaic.Lib.Pointwise.Reduce

@[expose] public section

namespace Cert.Proof.Ref

open Idealize.ShloMosaic
open Cert.ReferenceIdeal Cert.ReferenceIdeal.Gen
open Cert.Proof.Words

/-- A pair of a bit and a place is at least as good as another. -/
def Better (a b : BitVec 1 × BitVec 32) : Prop :=
  (a.1 = 1#1 ∧ b.1 = 0#1) ∨ (a.1 = b.1 ∧ a.2.toNat ≤ b.2.toNat)

theorem Better.refl (a : BitVec 1 × BitVec 32) : Better a a := Or.inr ⟨rfl, le_rfl⟩

/-- The bit that says a word is nonzero, set. -/
theorem bit_of_ne {v : BitVec 32} (h : v ≠ 0#32) : BitVec.ofBool (v != 0#32) = 1#1 := by
  rw [bne_iff_ne.mpr h]; rfl

theorem bit_cases (x : BitVec 1) : x = 0#1 ∨ x = 1#1 := by
  revert x; decide

theorem Better.trans {a b c : BitVec 1 × BitVec 32} (h : Better a b) (h' : Better b c) : Better a c := by
  rcases h with ⟨h1, h2⟩ | ⟨h1, h2⟩ <;> rcases h' with ⟨h3, h4⟩ | ⟨h3, h4⟩
  · rw [h2] at h3; exact absurd h3 (by decide)
  · exact Or.inl ⟨h1, h3 ▸ h2⟩
  · exact Or.inl ⟨h1.trans h3, h4⟩
  · exact Or.inr ⟨h1.trans h3, h2.trans h4⟩

/-- On small words the signed order is the order of the naturals. -/
theorem slt_small {a b : BitVec 32} (ha : a.toNat < 2048) (hb : b.toNat < 2048) :
    a.slt b = decide (a.toNat < b.toNat) := by
  rw [BitVec.slt_eq_decide, BitVec.toInt_eq_toNat_cond, BitVec.toInt_eq_toNat_cond]
  congr 1
  rw [if_pos (by omega), if_pos (by omega)]
  simp

/-- The reduction's body returns one of its two pairs, and the one returned is at least as good as both. -/
theorem reducer_best (a b : BitVec 1 × BitVec 32) (ha : a.2.toNat < 2048) (hb : b.2.toNat < 2048) :
    (reducer_argmax_i1_i32 a b = a ∨ reducer_argmax_i1_i32 a b = b)
      ∧ Better (reducer_argmax_i1_i32 a b) a ∧ Better (reducer_argmax_i1_i32 a b) b := by
  obtain ⟨x, i⟩ := a
  obtain ⟨y, j⟩ := b
  have hs := slt_small ha hb
  dsimp only at ha hb hs
  by_cases hlt : i.toNat < j.toNat
  · rw [decide_eq_true hlt] at hs
    rcases bit_cases x with rfl | rfl <;> rcases bit_cases y with rfl | rfl <;>
      simp [reducer_argmax_i1_i32, IntOp.cmpi, IntOp.ori, IntOp.andi, Scalar.select, Better, hs] <;> omega
  · rw [decide_eq_false hlt] at hs
    rcases bit_cases x with rfl | rfl <;> rcases bit_cases y with rfl | rfl <;>
      simp [reducer_argmax_i1_i32, IntOp.cmpi, IntOp.ori, IntOp.andi, Scalar.select, Better, hs] <;> omega

/-- The fold from a pair over a list of pairs, all with small places, is the pair or one of the list's, and at least as
    good as each. -/
theorem foldl_best (l : List (BitVec 1 × BitVec 32)) : ∀ a : BitVec 1 × BitVec 32, a.2.toNat < 2048 →
    (∀ q ∈ l, q.2.toNat < 2048) →
    (l.foldl reducer_argmax_i1_i32 a = a ∨ l.foldl reducer_argmax_i1_i32 a ∈ l)
      ∧ Better (l.foldl reducer_argmax_i1_i32 a) a ∧ ∀ q ∈ l, Better (l.foldl reducer_argmax_i1_i32 a) q := by
  induction l with
  | nil => intro a _ _; exact ⟨Or.inl rfl, Better.refl a, fun q hq => absurd hq (by simp)⟩
  | cons b l ih =>
    intro a ha hl
    have hb := hl b (by simp)
    obtain ⟨h0, h1, h2⟩ := reducer_best a b ha hb
    have hs : (reducer_argmax_i1_i32 a b).2.toNat < 2048 := by rcases h0 with h | h <;> rw [h] <;> assumption
    obtain ⟨g0, g1, g2⟩ := ih (reducer_argmax_i1_i32 a b) hs (fun q hq => hl q (by simp [hq]))
    rw [List.foldl_cons]
    refine ⟨?_, g1.trans h1, fun q hq => ?_⟩
    · rcases g0 with h | h
      · rw [h]
        rcases h0 with h | h
        · exact Or.inl h
        · exact Or.inr (by rw [h]; simp)
      · exact Or.inr (by simp [h])
    · rcases List.mem_cons.mp hq with rfl | hq
      · exact g1.trans h2
      · exact g2 q hq

/-- A pair is among those reduced for a row exactly when it is the bit and the place of one of the row's entries. -/
theorem mem_fiber (M : IVec S16x2048 1) (b : Fin 16) (q : BitVec 1 × BitVec 32) :
    q ∈ Host.argReduceFiber M (iotaInDim S16x2048 32 1) reducesTo_S16x2048_S16_d1 (ix1 b)
      ↔ ∃ p : Fin 2048, q = (M (ix2 b p), BitVec.ofNat 32 p.val) := by
  unfold Host.argReduceFiber
  simp only [List.mem_map, List.mem_filter, List.mem_finRange, true_and, decide_eq_true_eq]
  constructor
  · rintro ⟨n, hn, rfl⟩
    obtain ⟨p, hp⟩ := (Shape.ReducesTo.fiber_r2_a1 _ _ _).mp hn
    refine ⟨p, ?_⟩
    rw [← hp]
    rfl
  · rintro ⟨p, rfl⟩
    refine ⟨S16x2048.rowMajor (ix2 b p), ?_, ?_⟩
    · rw [Equiv.symm_apply_apply]
      exact (Shape.ReducesTo.fiber_r2_a1 _ _ _).mpr ⟨p, rfl⟩
    · rw [Equiv.symm_apply_apply]
      rfl

/-- The place of a row's first nonzero word, 0 in a row of zeros, is what the search finds. -/
theorem firstMax_nonzero (X : IVec S16x2048 32) (b : Fin 16) (w : Nat → BitVec 32)
    (hw : ∀ p : Fin 2048, w p.val = X (ix2 b p)) :
    firstMax (nonzero X) (ix1 b) = BitVec.ofNat 32 (origin w) := by
  have hbit : ∀ p : Fin 2048, nonzero X (ix2 b p) = BitVec.ofBool (w p.val != 0#32) := fun p => by
    rw [hw]; rfl
  unfold firstMax
  rw [Host.reduce2_eq_foldl_fiber]
  set l := Host.argReduceFiber (nonzero X) (iotaInDim S16x2048 32 1) reducesTo_S16x2048_S16_d1 (ix1 b) with hl
  have hsmall : ∀ q ∈ l, q.2.toNat < 2048 := fun q hq => by
    obtain ⟨p, rfl⟩ := (mem_fiber _ b q).mp hq
    show (BitVec.ofNat 32 p.val).toNat < 2048
    rw [BitVec.toNat_ofNat]
    have := p.isLt
    omega
  obtain ⟨h0, h1, h2⟩ := foldl_best l (0#1, 0#32) (by decide) hsmall
  show (l.foldl reducer_argmax_i1_i32 (0#1, 0#32)).2 = _
  set r := l.foldl reducer_argmax_i1_i32 (0#1, 0#32) with hr
  have hin : ∀ p : Fin 2048, Better r (BitVec.ofBool (w p.val != 0#32), BitVec.ofNat 32 p.val) := fun p => by
    rw [← hbit]
    exact h2 _ ((mem_fiber _ b _).mpr ⟨p, rfl⟩)
  unfold origin
  rcases bit_cases r.1 with hz | ho
  · -- no word of the row is nonzero
    have hnone : ∀ p < 2048, ¬ w p ≠ 0#32 := fun p hp hne => by
      rcases hin ⟨p, hp⟩ with ⟨h, _⟩ | ⟨h, _⟩
      · rw [hz] at h; exact absurd h (by decide)
      · rw [hz] at h
        rw [show (BitVec.ofBool (w p != 0#32), BitVec.ofNat 32 p).1 = 1#1 from bit_of_ne hne] at h
        exact absurd h (by decide)
    have hf : firstIdx w = 2048 :=
      le_antisymm (firstIdx_le w) ((le_firstIdx w _).mpr ⟨le_rfl, fun p hp hne => absurd hne (hnone p hp)⟩)
    rw [if_pos hf]
    rcases h1 with ⟨h, _⟩ | ⟨_, h⟩
    · rw [hz] at h; exact absurd h (by decide)
    · apply BitVec.eq_of_toNat_eq
      have : (0#32).toNat = 0 := rfl
      simp only [this] at h
      simpa using h
  · -- the best pair is that of the first nonzero word
    have hmem : r ∈ l := by
      rcases h0 with h | h
      · rw [h] at ho; exact absurd ho (by decide)
      · exact h
    obtain ⟨p, hp⟩ := (mem_fiber _ b r).mp hmem
    have hp1 : w p.val ≠ 0#32 := fun h => by
      rw [hp, hbit, h] at ho
      exact absurd (show (0#1 : BitVec 1) = 1#1 from ho) (by decide)
    have hpl := p.isLt
    have hf : firstIdx w = p.val := by
      refine le_antisymm (((le_firstIdx w _).mp le_rfl).2 p.val hpl hp1) ((le_firstIdx w _).mpr ⟨by omega, ?_⟩)
      intro q hq hne
      rcases hin ⟨q, hq⟩ with ⟨_, h⟩ | ⟨_, h⟩
      · rw [show (BitVec.ofBool (w q != 0#32), BitVec.ofNat 32 q).1 = 1#1 from bit_of_ne hne] at h
        exact absurd h (by decide)
      · rw [hp] at h
        simp only [BitVec.toNat_ofNat] at h
        omega
    rw [if_neg (by omega), hf, hp]

end Cert.Proof.Ref

end
-- ==== Proof.Answer.lean ====
/-
  The reference's value at an index: row `p − o` of the table, `o` being the origin of index row `b`, where `o ≤ p`, and
  the zero constant where `p < o`.
-/
module

public import proofs.«01_k».proof.Proof.Scan

@[expose] public section

namespace Cert.Proof.Ref

open Idealize.ShloMosaic
open Cert.ReferenceIdeal Cert.ReferenceIdeal.Gen
open Cert.Proof.Words

variable {F : FTy → Type} [FloatOps F]

/-- A natural below the table's height, as a word read signed. -/
theorem toInt_small {n : Nat} (h : n < 4096) : (BitVec.ofNat 32 n).toInt = n := by
  rw [BitVec.toInt_eq_toNat_cond, BitVec.toNat_ofNat, if_pos (by omega)]
  omega

/-- The relative position is a difference of words. -/
theorem relative_at (A : IVec S16 32) (b : Fin 16) (p : Fin 2048) :
    relative A (ix2 b p) = BitVec.ofNat 32 p.val - A (ix1 b) := by
  unfold relative subi broadcastInDim
  show IntOp.subi (BitVec.ofNat 32 _) (A _) = _
  have h : ∀ (i j : S16.Idx), (i 0).val = (j 0).val → A i = A j := fun i j hij => by
    congr 1; funext a; obtain rfl : a = 0 := Subsingleton.elim _ _; exact Fin.ext hij
  exact congrArg₂ IntOp.subi rfl (h _ _ rfl)

/-- Where the position is at or after the origin the relative position is the natural difference, -/
theorem relative_ge {A : IVec S16 32} {b : Fin 16} {o : Nat} (hA : A (ix1 b) = BitVec.ofNat 32 o) {p : Fin 2048}
    (h : o ≤ p.val) : relative A (ix2 b p) = BitVec.ofNat 32 (p.val - o) := by
  have := p.isLt
  rw [relative_at, hA]
  apply BitVec.eq_of_toNat_eq
  simp only [BitVec.toNat_sub, BitVec.toNat_ofNat]
  omega

/-- and where it is before the origin the relative position is negative. -/
theorem relative_lt {A : IVec S16 32} {b : Fin 16} {o : Nat} (ho : o < 2048) (hA : A (ix1 b) = BitVec.ofNat 32 o)
    {p : Fin 2048} (h : p.val < o) : (relative A (ix2 b p)).toInt < 0 := by
  have := p.isLt
  rw [relative_at, hA, BitVec.toInt_eq_toNat_cond]
  simp only [BitVec.toNat_sub, BitVec.toNat_ofNat]
  rw [if_neg (by omega)]
  omega

/-- A small relative position is in the table, so holding it there changes nothing. -/
theorem clipped_small {R : IVec S16x2048 32} {i : S16x2048.Idx} {n : Nat} (hn : n < 2048) (h : R i = BitVec.ofNat 32 n) :
    clipped R i = BitVec.ofNat 32 n := by
  show IntOp.minsi 2047#32 (IntOp.maxsi 0#32 (R i)) = _
  rw [h]
  have h0 : (0#32).toInt = 0 := rfl
  have h1 : (2047#32).toInt = 2047 := rfl
  have hx := toInt_small (show n < 4096 by omega)
  have hmax : IntOp.maxsi 0#32 (BitVec.ofNat 32 n) = BitVec.ofNat 32 n := by
    unfold IntOp.maxsi
    rw [BitVec.slt_eq_decide, hx, h0, decide_eq_false (by omega)]
    rfl
  rw [hmax]
  unfold IntOp.minsi
  rw [BitVec.slt_eq_decide, hx, h1, decide_eq_false (by omega)]
  rfl

/-- A negative relative position is held at the first row. -/
theorem clipped_neg {R : IVec S16x2048 32} {i : S16x2048.Idx} (h : (R i).toInt < 0) : clipped R i = 0#32 := by
  show IntOp.minsi 2047#32 (IntOp.maxsi 0#32 (R i)) = _
  have h1 : IntOp.maxsi 0#32 (R i) = 0#32 := by
    unfold IntOp.maxsi
    have h0 : (0#32).toInt = 0 := rfl
    simp only [BitVec.slt_eq_decide, decide_eq_true_eq, h0]
    split_ifs <;> first | rfl | omega
  rw [h1]
  decide

/-- A row number in the table is not counted from the end. -/
theorem wrapped_small {C : IVec S16x2048 32} {b : Fin 16} {p : Fin 2048} {n : Nat} (hn : n < 2048)
    (h : C (ix2 b p) = BitVec.ofNat 32 n) (z : Fin 1) : wrapped C (ix3 b p z) = BitVec.ofNat 32 n := by
  have e : wrapped C (ix3 b p z)
      = Scalar.select (IntOp.cmpi .slt (C (ix2 b p)) 0#32) (IntOp.addi (C (ix2 b p)) 2048#32) (C (ix2 b p)) := by
    have h : ∀ (i : S16x2048.Idx), (i 0).val = b.val → (i 1).val = p.val → C i = C (ix2 b p) := fun i h0 h1 => by
      congr 1; funext a
      match a with
      | ⟨0, _⟩ => exact Fin.ext h0
      | ⟨1, _⟩ => exact Fin.ext h1
    unfold wrapped broadcastInDim select
    show Scalar.select (IntOp.cmpi .slt (C _) 0#32) (IntOp.addi (C _) 2048#32) (C _) = _
    rw [h _ rfl rfl]
  rw [e, h]
  have hs : IntOp.cmpi .slt (BitVec.ofNat 32 n) 0#32 = 0#1 := by
    show BitVec.ofBool ((BitVec.ofNat 32 n).slt 0#32) = 0#1
    have h0 : (0#32).toInt = 0 := rfl
    rw [BitVec.slt_eq_decide, toInt_small (show n < 4096 by omega), h0, decide_eq_false (by omega)]
    rfl
  rw [hs]
  rfl

/-- A conjunction of bits all set is set. -/
theorem foldl_and {α : Type} (f : α → BitVec 1) (l : List α) (h : ∀ i ∈ l, f i = 1#1) :
    l.foldl (fun r i => IntOp.andi r (f i)) 1#1 = 1#1 := by
  induction l with
  | nil => rfl
  | cons a l ih =>
    rw [List.foldl_cons, h a (by simp)]
    exact ih fun i hi => h i (by simp [hi])

/-- A row number in the table passes the range test. -/
theorem inTable_small {W : IVec S16x2048x1 32} {b : Fin 16} {p : Fin 2048} {n : Nat} (hn : n < 2048)
    (h : ∀ z, W (ix3 b p z) = BitVec.ofNat 32 n) : inTable W (ix2 b p) = 1#1 := by
  unfold inTable
  rw [Host.reduce_eq_foldl]
  refine foldl_and _ _ fun i hi => ?_
  have hd := (List.mem_filter.mp hi).2
  rw [decide_eq_true_eq] at hd
  obtain ⟨z, rfl⟩ : ∃ z : Fin 1, i = ix3 b p z := by
    refine ⟨i 2, ?_⟩
    funext a
    match a with
    | ⟨0, _⟩ => exact Fin.ext (congrArg Fin.val (congrFun hd 0))
    | ⟨1, _⟩ => exact Fin.ext (congrArg Fin.val (congrFun hd 1))
    | ⟨2, _⟩ => rfl
  show IntOp.andi (IntOp.cmpi .sge (W (ix3 b p z)) 0#32) (IntOp.cmpi .sle (W (ix3 b p z)) 2047#32) = 1#1
  rw [h]
  have h0 : (0#32).toInt = 0 := rfl
  have h1 : (2047#32).toInt = 2047 := rfl
  show IntOp.andi (BitVec.ofBool ((0#32).sle (BitVec.ofNat 32 n))) (BitVec.ofBool ((BitVec.ofNat 32 n).sle 2047#32)) = 1#1
  rw [BitVec.sle_eq_decide, BitVec.sle_eq_decide, toInt_small (show n < 4096 by omega), h0, h1,
    decide_eq_true (by omega), decide_eq_true (by omega)]
  rfl

/-- The dimension numbers of the taking of rows. -/
abbrev rowDims : GatherDims S2048x1024 S16x2048x1 S16x2048x1024 := gather_S2048x1024_S16x2048x1_S16x2048x1024_2_0_n_n_0_2_11024

/-- Taking rows, read at an index: the row whose number stands there, the same lane. -/
theorem gather_at (T : FVec F S2048x1024 .f32) {W : IVec S16x2048x1 32} {b : Fin 16} {p : Fin 2048} {n : Nat}
    (hn : n < 2048) (h : ∀ z, W (ix3 b p z) = BitVec.ofNat 32 n) (e : Fin 1024) :
    Host.gather rowDims T W (ix3 b p e) = T (ix2 ⟨n, hn⟩ e) := by
  unfold Host.gather
  congr 1
  funext a
  refine Fin.ext ?_
  show rowDims.start (ix3 b p e) W a + rowDims.batchCoord (ix3 b p e) a + rowDims.offCoord (ix3 b p e) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ rowDims.startIndexMap from List.mem_singleton.mpr rfl)]
    have hsi : rowDims.siIdx (ix3 b p e) ⟨List.idxOf (0 : Fin 2) rowDims.startIndexMap,
        List.idxOf_lt_length_iff.2 (List.mem_singleton.mpr rfl)⟩ = ix3 b p (0 : Fin 1) := by
      funext c; refine Fin.ext ?_
      match c with
      | ⟨0, _⟩ => rfl
      | ⟨1, _⟩ => rfl
      | ⟨2, _⟩ => rfl
    rw [hsi, h, toInt_small (show n < 4096 by omega)]
    show min (Int.toNat n) 2047 = n
    rw [Int.toNat_natCast]
    omega
  · unfold GatherDims.start
    rw [dif_neg (show ¬ (1 : Fin 2) ∈ rowDims.startIndexMap from fun h => absurd (List.mem_singleton.mp h) (by decide))]
    simp only [Nat.zero_add]
    rfl

/-- The rows taken at numbers in the table are the table's rows, never the filler. -/
theorem takenRows_at (T : FVec F S2048x1024 .f32) {W : IVec S16x2048x1 32} {b : Fin 16} {p : Fin 2048} {n : Nat}
    (hn : n < 2048) (h : ∀ z, W (ix3 b p z) = BitVec.ofNat 32 n) (e : Fin 1024) :
    takenRows T W (ix3 b p e) = T (ix2 ⟨n, hn⟩ e) := by
  unfold takenRows select
  rw [gather_at T hn h]
  have hb : broadcastInDim S16x2048x1024 ![0, 1] bcast_S16x2048_S16x2048x1024_0_1 (inTable W) (ix3 b p e)
      = inTable W (ix2 b p) := by
    unfold broadcastInDim
    congr 1
    funext a
    match a with
    | ⟨0, _⟩ => rfl
    | ⟨1, _⟩ => rfl
  rw [hb, inTable_small hn h]
  rfl

/-- The masking, read at an index. -/
theorem masked_at (R : IVec S16x2048 32) (G : FVec F S16x2048x1024 .f32) (b : Fin 16) (p : Fin 2048) (e : Fin 1024) :
    masked R G (ix3 b p e)
      = Scalar.select (IntOp.cmpi .sge (R (ix2 b p)) 0#32) (G (ix3 b p e)) (FloatOps.ofBits .f32 0x00000000#32) := by
  have h : ∀ (i : S16x2048.Idx), (i 0).val = b.val → (i 1).val = p.val → R i = R (ix2 b p) := fun i h0 h1 => by
    congr 1; funext a
    match a with
    | ⟨0, _⟩ => exact Fin.ext h0
    | ⟨1, _⟩ => exact Fin.ext h1
  unfold masked select broadcastInDim
  show Scalar.select (IntOp.cmpi .sge (R _) 0#32) (G (ix3 b p e)) _ = _
  rw [h _ rfl rfl]
  rfl

/-- The reference's value at an index. -/
theorem answer_at (X : IVec S16x2048 32) (T : FVec F S2048x1024 .f32) (b : Fin 16) (p : Fin 2048) (e : Fin 1024)
    (w : Nat → BitVec 32) (hw : ∀ q : Fin 2048, w q.val = X (ix2 b q)) :
    answer X T (ix3 b p e)
      = if h : origin w ≤ p.val then T (ix2 ⟨p.val - origin w, by have := p.isLt; omega⟩ e)
        else FloatOps.ofBits .f32 0x00000000#32 := by
  have hA := firstMax_nonzero X b w hw
  have ho := origin_lt w
  have hp := p.isLt
  have h0 : (0#32).toInt = 0 := rfl
  unfold answer
  rw [masked_at]
  by_cases h : origin w ≤ p.val
  · rw [dif_pos h]
    have hR := relative_ge hA h
    rw [takenRows_at T (show p.val - origin w < 2048 by omega)
      (fun z => wrapped_small (by omega) (clipped_small (by omega) hR) z), hR]
    have hs : IntOp.cmpi .sge (BitVec.ofNat 32 (p.val - origin w)) 0#32 = 1#1 := by
      show BitVec.ofBool ((0#32).sle (BitVec.ofNat 32 (p.val - origin w))) = 1#1
      rw [BitVec.sle_eq_decide, toInt_small (n := p.val - origin w) (by omega), h0, decide_eq_true (by omega)]
      rfl
    rw [hs]
    rfl
  · rw [dif_neg h]
    have hR := relative_lt ho hA (show p.val < origin w by omega)
    have hs : IntOp.cmpi .sge (relative (firstMax (nonzero X)) (ix2 b p)) 0#32 = 0#1 := by
      show BitVec.ofBool ((0#32).sle (relative (firstMax (nonzero X)) (ix2 b p))) = 0#1
      rw [BitVec.sle_eq_decide, h0, decide_eq_false (by omega)]
      rfl
    rw [hs]
    rfl

end Cert.Proof.Ref

end
-- ==== Proof.ValueIdeal.lean ====
/-
  The kernel's value at an index, and that it is the reference's: row `p − o` of the table, `o` being the origin of index
  row `b`, where `o ≤ p`, and the zero constant where `p < o`.
-/
module

public import proofs.«01_k».proof.Proof.LaunchIdeal
public import proofs.«01_k».proof.Proof.Answer
public import Idealize.ShloMosaic.Lib.Pointwise

@[expose] public section

noncomputable section

namespace Cert.Proof.EmbedIdeal

open Cert.KernelIdeal Cert.KernelIdeal.Gen
open Cert.Proof.Words
open Idealize.ShloMosaic

variable {F : FTy → Type} [FloatOps F]
variable (m : (ℓ : Loc nD τ sig) → Buf (Elt F) ℓ) (d : Dev nD)

/-- The index argument at the launch. -/
abbrev argX : IVec S16x2048 32 := m ((SparseCore.T d).loc main_arg0)
/-- The table at the launch. -/
abbrev argT : FVec F S2048x1024 .f32 := m ((SparseCore.T d).loc main_arg1)

/-! ## What the host's operations before the call leave -/

/-- The flat input is the index argument, reshaped. -/
theorem XF_eq : XF m d = shapeCast S32768 (argX m d) shapeCasts_S16x2048_S32768 := by
  unfold XF V5
  rw [(opT (F := F)).result_of_not_mem _ (show v2' ∉ ({v3'} : Finset (DevRef τ sig)) by decide)]
  refine (StableHlo.reshape_result' (x := main_arg0) (y := main_v2) rfl shapeCasts_S16x2048_S32768 _ _ (V3 m d)).trans ?_
  have h : V3 m d a0' = argX m d := by
    unfold V3 V2 V1
    rw [(opCat (F := F)).result_of_not_mem _ (show a0' ∉ ({v1'} : Finset (DevRef τ sig)) by decide),
      (opZero (F := F)).result_of_not_mem _ (show a0' ∉ ({v0'} : Finset (DevRef τ sig)) by decide),
      (opCst (F := F)).result_of_not_mem _ (show a0' ∉ ({cst'} : Finset (DevRef τ sig)) by decide)]
    rfl
  exact congrArg (fun a : IVec S16x2048 32 => shapeCast S32768 a shapeCasts_S16x2048_S32768) h

/-- The zero rows that go above the table. -/
abbrev zeros : FVec F S2048x1024 .f32 :=
  broadcastInDim S2048x1024 ![] bcast_S_S2048x1024 (constant (F := F) S_ .f32 0x00000000#32)

/-- The table below as many zero rows. -/
abbrev stacked (T : FVec F S2048x1024 .f32) : FVec F S4096x1024 .f32 :=
  concatenate S4096x1024 0 [⟨S2048x1024, zeros⟩, ⟨S2048x1024, T⟩] concatenates_S2048x1024_S2048x1024_S4096x1024_d0

/-- The flat table is the table below as many zero rows, reshaped. -/
theorem TF_eq : TF m d = shapeCast S4194304 (stacked (argT m d)) shapeCasts_S4096x1024_S4194304 := by
  unfold TF V5
  refine (StableHlo.reshape_result' (x := main_v1) (y := main_v3) rfl shapeCasts_S4096x1024_S4194304 _ _ (V4 m d)).trans ?_
  have hc : V1 m d cst' = constant (F := F) S_ .f32 0x00000000#32 := StableHlo.nullary_result' _ _ (V0 m d)
  have hz : V2 m d v0' = zeros (F := F) := by
    refine (StableHlo.unary_result' _ _ _ (V1 m d)).trans ?_
    exact congrArg (fun a : FVec F S_ .f32 => (broadcastInDim S2048x1024 ![] bcast_S_S2048x1024 a : FVec F S2048x1024 .f32)) hc
  have ht : V2 m d a1' = argT m d := by
    unfold V2 V1
    rw [(opZero (F := F)).result_of_not_mem _ (show a1' ∉ ({v0'} : Finset (DevRef τ sig)) by decide),
      (opCst (F := F)).result_of_not_mem _ (show a1' ∉ ({cst'} : Finset (DevRef τ sig)) by decide)]
    rfl
  have h : V4 m d v1' = stacked (argT m d) := by
    unfold V4 V3
    rw [(opX (F := F)).result_of_not_mem _ (show v1' ∉ ({v2'} : Finset (DevRef τ sig)) by decide)]
    refine (StableHlo.binary_result' _ _ _ _ (V2 m d)).trans ?_
    exact congrArg₂ (fun a b : FVec F S2048x1024 .f32 =>
      (concatenate S4096x1024 0 [⟨S2048x1024, a⟩, ⟨S2048x1024, b⟩] concatenates_S2048x1024_S2048x1024_S4096x1024_d0 :
        FVec F S4096x1024 .f32)) hz ht
  exact congrArg (fun a : FVec F S4096x1024 .f32 => shapeCast S4194304 a shapeCasts_S4096x1024_S4194304) h

/-- The result is the flat output, reshaped. -/
theorem V7_eq : V7 m d v5' = shapeCast S16x2048x1024 (OF m d) shapeCasts_S33554432_S16x2048x1024 := by
  unfold V7
  refine (StableHlo.reshape_result' (x := main_v4) (y := main_v5) rfl shapeCasts_S33554432_S16x2048x1024 _ _ (V6 m d)).trans ?_
  exact congrArg (fun a : FVec F S33554432 .f32 => shapeCast S16x2048x1024 a shapeCasts_S33554432_S16x2048x1024) (V6_o m d)

/-! ## Read at an index -/

/-- Row `b` of the flat input is row `b` of the index argument. -/
theorem rowWord_XF (b : Fin 16) (q : Fin 2048) : rowWord (XF m d) b.val q.val = argX m d (ix2 b q) := by
  have hb := b.isLt
  have hq := q.isLt
  unfold rowWord wordAt
  rw [dif_pos (show 2048 * b.val + q.val < 32768 by omega), XF_eq]
  refine congrArg (argX m d) (Shape.reshapeEquiv_eq_of_rowMajor _ ?_)
  rw [Shape.rowMajor_val_two, Shape.rowMajor_val_one]
  show b.val * 2048 + q.val = 2048 * b.val + q.val
  omega

/-- The stacked table read at a row: zero in the upper half, the table in the lower. -/
theorem stacked_at (T : FVec F S2048x1024 .f32) (r : Fin 4096) (e : Fin 1024) :
    stacked T (ix2 r e) = if h : 2048 ≤ r.val then T (ix2 ⟨r.val - 2048, by have := r.isLt; omega⟩ e)
      else FloatOps.ofBits .f32 0x00000000#32 := by
  refine (concatenate_pair_apply (0 : Fin S4096x1024.rank) zeros T concatenates_S2048x1024_S2048x1024_S4096x1024_d0 (ix2 r e)).trans ?_
  by_cases h : r.val < 2048
  · refine (dif_pos h).trans ?_
    rw [dif_neg (by omega)]
    rfl
  · refine (dif_neg h).trans ?_
    rw [dif_pos (by omega)]
    refine congrArg T ?_
    funext a
    match a with
    | ⟨0, _⟩ => rfl
    | ⟨1, _⟩ => rfl

/-- The flat table read at row `r`, lane `e`. -/
theorem TF_at (r : Fin 4096) (e : Fin 1024) (n : Nat) (hn : n < 4194304) (h : n = r.val * 1024 + e.val) :
    TF m d (at1 n hn) = stacked (argT m d) (ix2 r e) := by
  subst h
  rw [TF_eq]
  refine congrArg (stacked (argT m d)) (Shape.reshapeEquiv_eq_of_rowMajor _ ?_)
  rw [Shape.rowMajor_val_two, Shape.rowMajor_val_one]
  rfl

/-- The result read at an index: row `p − o` of the table where `o ≤ p`, zero before. -/
theorem V7_at (b : Fin 16) (p : Fin 2048) (e : Fin 1024) :
    (V7 m d v5' : FVec F S16x2048x1024 .f32) (ix3 b p e)
      = if h : origin (rowWord (XF m d) b.val) ≤ p.val then
          argT m d (ix2 ⟨p.val - origin (rowWord (XF m d) b.val), by have := p.isLt; omega⟩ e)
        else FloatOps.ofBits .f32 0x00000000#32 := by
  have hb := b.isLt
  have hp := p.isLt
  have he := e.isLt
  have ho := origin_lt (rowWord (XF m d) b.val)
  have hj : (b.val * 2048 + p.val) * 1024 + e.val < 33554432 := by omega
  have h1 : (V7 m d v5' : FVec F S16x2048x1024 .f32) (ix3 b p e) = OF m d (at1 _ hj) := by
    rw [V7_eq]
    refine congrArg (OF m d) (Shape.reshapeEquiv_eq_of_rowMajor _ ?_)
    rw [Shape.rowMajor_val_one, Shape.rowMajor_val_three]
    rfl
  rw [h1]
  unfold OF outAt
  have hs : srcAt (XF m d) ((b.val * 2048 + p.val) * 1024 + e.val)
      = (p.val + 2048 - origin (rowWord (XF m d) b.val)) * 1024 + e.val := by
    unfold srcAt
    rw [show ((b.val * 2048 + p.val) * 1024 + e.val) / 2097152 = b.val by omega,
      show ((b.val * 2048 + p.val) * 1024 + e.val) / 1024 % 2048 = p.val by omega,
      show ((b.val * 2048 + p.val) * 1024 + e.val) % 1024 = e.val by omega]
  rw [TF_at m d ⟨p.val + 2048 - origin (rowWord (XF m d) b.val), by omega⟩ e _ _ hs, stacked_at]
  by_cases h : origin (rowWord (XF m d) b.val) ≤ p.val
  · rw [dif_pos h, dif_pos (by show 2048 ≤ p.val + 2048 - _; omega)]
    exact congrArg (fun a : Fin 2048 => argT m d (ix2 a e)) (Fin.ext (by show p.val + 2048 - _ - 2048 = p.val - _; omega))
  · rw [dif_neg h, dif_neg (by show ¬ 2048 ≤ p.val + 2048 - _; omega)]

/-- What the kernel leaves in its result is what the reference computes from the same arguments. -/
theorem V7_answer : V7 m d v5' = Cert.Proof.Ref.answer (argX m d) (argT m d) := by
  have h : ∀ (b : Fin 16) (p : Fin 2048) (e : Fin 1024), (V7 m d v5' : FVec F S16x2048x1024 .f32) (ix3 b p e)
      = Cert.Proof.Ref.answer (argX m d) (argT m d) (ix3 b p e) := fun b p e =>
    (V7_at m d b p e).trans (Cert.Proof.Ref.answer_at (argX m d) (argT m d) b p e (rowWord (XF m d) b.val)
      fun q => rowWord_XF m d b q).symm
  funext j
  have hj : (j : S16x2048x1024.Idx) = ix3 (j 0) (j 1) (j 2) := by
    funext a
    match a with
    | ⟨0, _⟩ => rfl
    | ⟨1, _⟩ => rfl
    | ⟨2, _⟩ => rfl
  rw [hj]
  exact h _ _ _

end Cert.Proof.EmbedIdeal

end
-- ==== Proof.lean ====
/-
  The certificate: the frames of the kernel, of its ideal program and of the reference, and that over the extended reals
  the kernel and the reference leave the same array.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Launch
public import proofs.«01_k».proof.Proof.LaunchIdeal
public import proofs.«01_k».proof.Proof.RefRun
public import proofs.«01_k».proof.Proof.ValueIdeal
public import Idealize.ShloMosaic.Adequacy
public import Idealize.ShloMosaic.Init

@[expose] public section

noncomputable section

namespace Cert.Proof

open Idealize.ShloMosaic Idealize.SL.Sem Cert.Kernel

/-- From equal arguments the ideal kernel and the reference end with the same result, their arguments as they were. -/
theorem same_value : Cert.algebraic_KernelIdeal_ReferenceIdeal := fun m g m' g' _ hagree =>
  ⟨fun c => EmbedIdeal.V7 m c EmbedIdeal.v5',
    (θ_run _ _ _).mono (fun _ h => h.1) (EmbedIdeal.run_main (F := Ideal) m g),
    (θ_run _ _ _).mono (fun _ h c => ⟨(h c).1.trans
      ((congrArg₂ Ref.answer (hagree c).1 (hagree c).2).trans (EmbedIdeal.V7_answer m c).symm), (h c).2⟩)
      (Ref.run_answer m' g')⟩

/-- All the claims. -/
theorem claim : Cert.Claim := ⟨Cert.Kernel.Gen.facts, Cert.KernelIdeal.Gen.facts, Cert.ReferenceIdeal.Gen.facts,
  Embed.frame, EmbedIdeal.frame, Ref.frame, trivial, same_value⟩

end Cert.Proof

end
